-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 2048]⟩ ⟨3, ![2, 4096, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x2048 : Shape := ⟨3, ![1, 4096, 2048]⟩
abbrev S2048 : Shape := ⟨1, ![2048]⟩
abbrev S2048x2048 : Shape := ⟨2, ![2048, 2048]⟩
abbrev S2x64x2048 : Shape := ⟨3, ![2, 64, 2048]⟩
abbrev S8x64x2048 : Shape := ⟨3, ![8, 64, 2048]⟩
abbrev S4x64x2048 : Shape := ⟨3, ![4, 64, 2048]⟩
abbrev S2 : Shape := ⟨1, ![2]⟩
abbrev S8 : Shape := ⟨1, ![8]⟩
abbrev S4 : Shape := ⟨1, ![4]⟩
abbrev S1 : Shape := ⟨1, ![1]⟩
abbrev S_ : Shape := ⟨0, ![]⟩
abbrev S1x64x2048 : Shape := ⟨3, ![1, 64, 2048]⟩
abbrev S64x2048 : Shape := ⟨2, ![64, 2048]⟩
abbrev S64 : Shape := ⟨1, ![64]⟩
abbrev S64x1 : Shape := ⟨2, ![64, 1]⟩
abbrev S1x2048 : Shape := ⟨2, ![1, 2048]⟩

abbrev nBuf : Space → Nat
  | .hbm => 3
  | .vmem => 10
  | .smem => 0
  | _ => 0

abbrev bufTy : (tb : Table) → Fin (tcTables nBuf tb) → BufTy
  | .hbm, ⟨0, _⟩ => ⟨S1x4096x2048, .f32⟩
  | .hbm, ⟨1, _⟩ => ⟨S2048, .f32⟩
  | .hbm, ⟨2, _⟩ => ⟨S2048x2048, .f32⟩
  | .local _ .vmem, ⟨0, _⟩ => ⟨S2048, .f32⟩
  | .local _ .vmem, ⟨1, _⟩ => ⟨S2x64x2048, .f32⟩
  | .local _ .vmem, ⟨2, _⟩ => ⟨S8x64x2048, .bf16⟩
  | .local _ .vmem, ⟨3, _⟩ => ⟨S8x64x2048, .bf16⟩
  | .local _ .vmem, ⟨4, _⟩ => ⟨S8x64x2048, .bf16⟩
  | .local _ .vmem, ⟨5, _⟩ => ⟨S8x64x2048, .bf16⟩
  | .local _ .vmem, ⟨6, _⟩ => ⟨S4x64x2048, .bf16⟩
  | .local _ .vmem, ⟨7, _⟩ => ⟨S4x64x2048, .bf16⟩
  | .local _ .vmem, ⟨8, _⟩ => ⟨S2x64x2048, .f32⟩
  | .local _ .vmem, ⟨9, _⟩ => ⟨S2x64x2048, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_off1 (d0 : Dev nD) (c0_i32_44 : BitVec 32) : Fin 3 → Nat :=
  let c0_i32_45 : BitVec 32 := 0#32
  let c1_i32_18 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.subi c1_i32_18 v5
  let c2048_i32_19 : BitVec 32 := 2048#32
  let v33 : BitVec 32 := Scalar.muli v32 c2048_i32_19
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.addi v16 v9
  let c512_i32 : BitVec 32 := 512#32
  let v18 : BitVec 32 := Scalar.muli v17 c512_i32
  let v34 : BitVec 32 := Scalar.addi v33 v18
  let v67 : BitVec 32 := Scalar.addi v34 c0_i32_44
  let c0_i32_50 : BitVec 32 := 0#32
  ![0, v67.toNat, 0]
def k0_off2 (d0 : Dev nD) (c0_i32 : BitVec 32) : Fin 3 → Nat :=
  let c0_i32_58 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v15 : BitVec 32 := Scalar.muli v5 c2048_i32
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.addi v16 v9
  let c512_i32 : BitVec 32 := 512#32
  let v18 : BitVec 32 := Scalar.muli v17 c512_i32
  let v35 : BitVec 32 := Scalar.addi v18 c0_i32
  let v81 : BitVec 32 := Scalar.addi v15 v35
  let c0_i32_63 : BitVec 32 := 0#32
  ![0, v81.toNat, 0]
def k0_dev1 (d0 : Dev nD) : Nat :=
  let c0_i32_72 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_71 : BitVec 32 := 8#32
  let v96 : BitVec 32 := Scalar.muli v2 c8_i32_71
  let v97 : BitVec 32 := Scalar.addi c0_i32_72 v96
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_73 : BitVec 32 := 4#32
  let v98 : BitVec 32 := Scalar.muli v13 c4_i32_73
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v100 : BitVec 32 := Scalar.muli v8 c1_i32_74
  let v101 : BitVec 32 := Scalar.addi v99 v100
  v101.toNat
def k0_dev2 (d0 : Dev nD) : Nat :=
  let c0_i32_77 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_76 : BitVec 32 := 8#32
  let v102 : BitVec 32 := Scalar.muli v14 c8_i32_76
  let v103 : BitVec 32 := Scalar.addi c0_i32_77 v102
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_78 : BitVec 32 := 4#32
  let v104 : BitVec 32 := Scalar.muli v5 c4_i32_78
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v106 : BitVec 32 := Scalar.muli v8 c1_i32_79
  let v107 : BitVec 32 := Scalar.addi v105 v106
  v107.toNat
def k0_dev3 (d0 : Dev nD) : Nat :=
  let c0_i32_82 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_81 : BitVec 32 := 8#32
  let v108 : BitVec 32 := Scalar.muli v2 c8_i32_81
  let v109 : BitVec 32 := Scalar.addi c0_i32_82 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_83 : BitVec 32 := 4#32
  let v110 : BitVec 32 := Scalar.muli v5 c4_i32_83
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_84 : BitVec 32 := 1#32
  let v112 : BitVec 32 := Scalar.muli v12 c1_i32_84
  let v113 : BitVec 32 := Scalar.addi v111 v112
  v113.toNat
def k0_dev4 (d0 : Dev nD) : Nat :=
  let c0_i32_102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_101 : BitVec 32 := 8#32
  let v127 : BitVec 32 := Scalar.muli v2 c8_i32_101
  let v128 : BitVec 32 := Scalar.addi c0_i32_102 v127
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_103 : BitVec 32 := 4#32
  let v129 : BitVec 32 := Scalar.muli v13 c4_i32_103
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v131 : BitVec 32 := Scalar.muli v8 c1_i32_104
  let v132 : BitVec 32 := Scalar.addi v130 v131
  v132.toNat
def k0_dev5 (d0 : Dev nD) : Nat :=
  let c0_i32_133 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_132 : BitVec 32 := 8#32
  let v161 : BitVec 32 := Scalar.muli v2 c8_i32_132
  let v162 : BitVec 32 := Scalar.addi c0_i32_133 v161
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_134 : BitVec 32 := 4#32
  let v163 : BitVec 32 := Scalar.muli v13 c4_i32_134
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v165 : BitVec 32 := Scalar.muli v8 c1_i32_135
  let v166 : BitVec 32 := Scalar.addi v164 v165
  v166.toNat
def k0_dev6 (d0 : Dev nD) : Nat :=
  let c0_i32_164 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_163 : BitVec 32 := 8#32
  let v195 : BitVec 32 := Scalar.muli v2 c8_i32_163
  let v196 : BitVec 32 := Scalar.addi c0_i32_164 v195
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_165 : BitVec 32 := 4#32
  let v197 : BitVec 32 := Scalar.muli v13 c4_i32_165
  let v198 : BitVec 32 := Scalar.addi v196 v197
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_166 : BitVec 32 := 1#32
  let v199 : BitVec 32 := Scalar.muli v8 c1_i32_166
  let v200 : BitVec 32 := Scalar.addi v198 v199
  v200.toNat
def k0_dev7 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v229 : BitVec 32 := Scalar.muli v2 c8_i32_194
  let v230 : BitVec 32 := Scalar.addi c0_i32_195 v229
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_196 : BitVec 32 := 4#32
  let v231 : BitVec 32 := Scalar.muli v13 c4_i32_196
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_197 : BitVec 32 := 1#32
  let v233 : BitVec 32 := Scalar.muli v8 c1_i32_197
  let v234 : BitVec 32 := Scalar.addi v232 v233
  v234.toNat
def k0_dev8 (d0 : Dev nD) : Nat :=
  let c0_i32_226 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_225 : BitVec 32 := 8#32
  let v263 : BitVec 32 := Scalar.muli v2 c8_i32_225
  let v264 : BitVec 32 := Scalar.addi c0_i32_226 v263
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_227 : BitVec 32 := 4#32
  let v265 : BitVec 32 := Scalar.muli v13 c4_i32_227
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_228 : BitVec 32 := 1#32
  let v267 : BitVec 32 := Scalar.muli v8 c1_i32_228
  let v268 : BitVec 32 := Scalar.addi v266 v267
  v268.toNat
def k0_dev9 (d0 : Dev nD) : Nat :=
  let c0_i32_256 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_255 : BitVec 32 := 8#32
  let v297 : BitVec 32 := Scalar.muli v2 c8_i32_255
  let v298 : BitVec 32 := Scalar.addi c0_i32_256 v297
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_257 : BitVec 32 := 4#32
  let v299 : BitVec 32 := Scalar.muli v13 c4_i32_257
  let v300 : BitVec 32 := Scalar.addi v298 v299
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_258 : BitVec 32 := 1#32
  let v301 : BitVec 32 := Scalar.muli v8 c1_i32_258
  let v302 : BitVec 32 := Scalar.addi v300 v301
  v302.toNat
def k0_dev10 (d0 : Dev nD) : Nat :=
  let c0_i32_286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_285 : BitVec 32 := 8#32
  let v331 : BitVec 32 := Scalar.muli v2 c8_i32_285
  let v332 : BitVec 32 := Scalar.addi c0_i32_286 v331
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_287 : BitVec 32 := 4#32
  let v333 : BitVec 32 := Scalar.muli v13 c4_i32_287
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_288 : BitVec 32 := 1#32
  let v335 : BitVec 32 := Scalar.muli v8 c1_i32_288
  let v336 : BitVec 32 := Scalar.addi v334 v335
  v336.toNat
def k0_dev11 (d0 : Dev nD) : Nat :=
  let c0_i32_309 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_308 : BitVec 32 := 8#32
  let v358 : BitVec 32 := Scalar.muli v2 c8_i32_308
  let v359 : BitVec 32 := Scalar.addi c0_i32_309 v358
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_310 : BitVec 32 := 4#32
  let v360 : BitVec 32 := Scalar.muli v13 c4_i32_310
  let v361 : BitVec 32 := Scalar.addi v359 v360
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_311 : BitVec 32 := 1#32
  let v362 : BitVec 32 := Scalar.muli v8 c1_i32_311
  let v363 : BitVec 32 := Scalar.addi v361 v362
  v363.toNat
def k0_dev12 (d0 : Dev nD) : Nat :=
  let c0_i32_333 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_332 : BitVec 32 := 8#32
  let v384 : BitVec 32 := Scalar.muli v14 c8_i32_332
  let v385 : BitVec 32 := Scalar.addi c0_i32_333 v384
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_334 : BitVec 32 := 4#32
  let v386 : BitVec 32 := Scalar.muli v5 c4_i32_334
  let v387 : BitVec 32 := Scalar.addi v385 v386
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v388 : BitVec 32 := Scalar.muli v8 c1_i32_335
  let v389 : BitVec 32 := Scalar.addi v387 v388
  v389.toNat
def k0_dev13 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v398 : BitVec 32 := Scalar.muli v2 c8_i32_344
  let v399 : BitVec 32 := Scalar.addi c0_i32_345 v398
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_346 : BitVec 32 := 4#32
  let v400 : BitVec 32 := Scalar.muli v5 c4_i32_346
  let v401 : BitVec 32 := Scalar.addi v399 v400
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_347 : BitVec 32 := 1#32
  let v402 : BitVec 32 := Scalar.muli v12 c1_i32_347
  let v403 : BitVec 32 := Scalar.addi v401 v402
  v403.toNat
def k0_off3 (d0 : Dev nD) (c0_i32 : BitVec 32) : Fin 2 → Nat :=
  let c2_i32_7 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v16 : BitVec 32 := Scalar.muli c2_i32_7 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v17 : BitVec 32 := Scalar.addi v16 v9
  let c512_i32 : BitVec 32 := 512#32
  let v18 : BitVec 32 := Scalar.muli v17 c512_i32
  let v35 : BitVec 32 := Scalar.addi v18 c0_i32
  let c0_i32_372 : BitVec 32 := 0#32
  ![v35.toNat, 0]
def k0_dev14 (d0 : Dev nD) : Nat :=
  let c0_i32_398 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_397 : BitVec 32 := 8#32
  let v467 : BitVec 32 := Scalar.muli v14 c8_i32_397
  let v468 : BitVec 32 := Scalar.addi c0_i32_398 v467
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_399 : BitVec 32 := 4#32
  let v469 : BitVec 32 := Scalar.muli v5 c4_i32_399
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v471 : BitVec 32 := Scalar.muli v8 c1_i32_400
  let v472 : BitVec 32 := Scalar.addi v470 v471
  v472.toNat
def k0_dev15 (d0 : Dev nD) : Nat :=
  let c0_i32_410 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_409 : BitVec 32 := 8#32
  let v481 : BitVec 32 := Scalar.muli v2 c8_i32_409
  let v482 : BitVec 32 := Scalar.addi c0_i32_410 v481
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_411 : BitVec 32 := 4#32
  let v483 : BitVec 32 := Scalar.muli v5 c4_i32_411
  let v484 : BitVec 32 := Scalar.addi v482 v483
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_412 : BitVec 32 := 1#32
  let v485 : BitVec 32 := Scalar.muli v12 c1_i32_412
  let v486 : BitVec 32 := Scalar.addi v484 v485
  v486.toNat
def k0_dev16 (d0 : Dev nD) : Nat :=
  let c0_i32_464 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_463 : BitVec 32 := 8#32
  let v550 : BitVec 32 := Scalar.muli v14 c8_i32_463
  let v551 : BitVec 32 := Scalar.addi c0_i32_464 v550
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_465 : BitVec 32 := 4#32
  let v552 : BitVec 32 := Scalar.muli v5 c4_i32_465
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_466 : BitVec 32 := 1#32
  let v554 : BitVec 32 := Scalar.muli v8 c1_i32_466
  let v555 : BitVec 32 := Scalar.addi v553 v554
  v555.toNat
def k0_dev17 (d0 : Dev nD) : Nat :=
  let c0_i32_476 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_475 : BitVec 32 := 8#32
  let v564 : BitVec 32 := Scalar.muli v2 c8_i32_475
  let v565 : BitVec 32 := Scalar.addi c0_i32_476 v564
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_477 : BitVec 32 := 4#32
  let v566 : BitVec 32 := Scalar.muli v5 c4_i32_477
  let v567 : BitVec 32 := Scalar.addi v565 v566
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_478 : BitVec 32 := 1#32
  let v568 : BitVec 32 := Scalar.muli v12 c1_i32_478
  let v569 : BitVec 32 := Scalar.addi v567 v568
  v569.toNat
def k0_dev18 (d0 : Dev nD) : Nat :=
  let c0_i32_535 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_534 : BitVec 32 := 8#32
  let v638 : BitVec 32 := Scalar.muli v14 c8_i32_534
  let v639 : BitVec 32 := Scalar.addi c0_i32_535 v638
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_536 : BitVec 32 := 4#32
  let v640 : BitVec 32 := Scalar.muli v5 c4_i32_536
  let v641 : BitVec 32 := Scalar.addi v639 v640
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v642 : BitVec 32 := Scalar.muli v8 c1_i32_537
  let v643 : BitVec 32 := Scalar.addi v641 v642
  v643.toNat
def k0_dev19 (d0 : Dev nD) : Nat :=
  let c0_i32_547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_546 : BitVec 32 := 8#32
  let v652 : BitVec 32 := Scalar.muli v2 c8_i32_546
  let v653 : BitVec 32 := Scalar.addi c0_i32_547 v652
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_548 : BitVec 32 := 4#32
  let v654 : BitVec 32 := Scalar.muli v5 c4_i32_548
  let v655 : BitVec 32 := Scalar.addi v653 v654
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_549 : BitVec 32 := 1#32
  let v656 : BitVec 32 := Scalar.muli v12 c1_i32_549
  let v657 : BitVec 32 := Scalar.addi v655 v656
  v657.toNat
def k0_dev20 (d0 : Dev nD) : Nat :=
  let c0_i32_606 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_605 : BitVec 32 := 8#32
  let v726 : BitVec 32 := Scalar.muli v14 c8_i32_605
  let v727 : BitVec 32 := Scalar.addi c0_i32_606 v726
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_607 : BitVec 32 := 4#32
  let v728 : BitVec 32 := Scalar.muli v5 c4_i32_607
  let v729 : BitVec 32 := Scalar.addi v727 v728
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_608 : BitVec 32 := 1#32
  let v730 : BitVec 32 := Scalar.muli v8 c1_i32_608
  let v731 : BitVec 32 := Scalar.addi v729 v730
  v731.toNat
def k0_dev21 (d0 : Dev nD) : Nat :=
  let c0_i32_618 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_617 : BitVec 32 := 8#32
  let v740 : BitVec 32 := Scalar.muli v2 c8_i32_617
  let v741 : BitVec 32 := Scalar.addi c0_i32_618 v740
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_619 : BitVec 32 := 4#32
  let v742 : BitVec 32 := Scalar.muli v5 c4_i32_619
  let v743 : BitVec 32 := Scalar.addi v741 v742
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_620 : BitVec 32 := 1#32
  let v744 : BitVec 32 := Scalar.muli v12 c1_i32_620
  let v745 : BitVec 32 := Scalar.addi v743 v744
  v745.toNat
def k0_dev22 (d0 : Dev nD) : Nat :=
  let c0_i32_677 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_676 : BitVec 32 := 8#32
  let v814 : BitVec 32 := Scalar.muli v14 c8_i32_676
  let v815 : BitVec 32 := Scalar.addi c0_i32_677 v814
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_678 : BitVec 32 := 4#32
  let v816 : BitVec 32 := Scalar.muli v5 c4_i32_678
  let v817 : BitVec 32 := Scalar.addi v815 v816
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_679 : BitVec 32 := 1#32
  let v818 : BitVec 32 := Scalar.muli v8 c1_i32_679
  let v819 : BitVec 32 := Scalar.addi v817 v818
  v819.toNat
def k0_dev23 (d0 : Dev nD) : Nat :=
  let c0_i32_689 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_688 : BitVec 32 := 8#32
  let v828 : BitVec 32 := Scalar.muli v2 c8_i32_688
  let v829 : BitVec 32 := Scalar.addi c0_i32_689 v828
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_690 : BitVec 32 := 4#32
  let v830 : BitVec 32 := Scalar.muli v5 c4_i32_690
  let v831 : BitVec 32 := Scalar.addi v829 v830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_691 : BitVec 32 := 1#32
  let v832 : BitVec 32 := Scalar.muli v12 c1_i32_691
  let v833 : BitVec 32 := Scalar.addi v831 v832
  v833.toNat
def k0_dev24 (d0 : Dev nD) : Nat :=
  let c0_i32_748 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_747 : BitVec 32 := 8#32
  let v902 : BitVec 32 := Scalar.muli v14 c8_i32_747
  let v903 : BitVec 32 := Scalar.addi c0_i32_748 v902
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_749 : BitVec 32 := 4#32
  let v904 : BitVec 32 := Scalar.muli v5 c4_i32_749
  let v905 : BitVec 32 := Scalar.addi v903 v904
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v906 : BitVec 32 := Scalar.muli v8 c1_i32_750
  let v907 : BitVec 32 := Scalar.addi v905 v906
  v907.toNat
def k0_dev25 (d0 : Dev nD) : Nat :=
  let c0_i32_760 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_759 : BitVec 32 := 8#32
  let v916 : BitVec 32 := Scalar.muli v2 c8_i32_759
  let v917 : BitVec 32 := Scalar.addi c0_i32_760 v916
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_761 : BitVec 32 := 4#32
  let v918 : BitVec 32 := Scalar.muli v5 c4_i32_761
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_762 : BitVec 32 := 1#32
  let v920 : BitVec 32 := Scalar.muli v12 c1_i32_762
  let v921 : BitVec 32 := Scalar.addi v919 v920
  v921.toNat
def k0_off4 (d0 : Dev nD) (c0_i32_20 : BitVec 32) : Fin 3 → Nat :=
  let c0_i32_796 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v15 : BitVec 32 := Scalar.muli v5 c2048_i32
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_8 v2
  let v20 : BitVec 32 := Scalar.muli c2_i32_9 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.addi v20 v9
  let c512_i32_10 : BitVec 32 := 512#32
  let v22 : BitVec 32 := Scalar.muli v21 c512_i32_10
  let v43 : BitVec 32 := Scalar.addi v22 c0_i32_20
  let v971 : BitVec 32 := Scalar.addi v15 v43
  let c0_i32_801 : BitVec 32 := 0#32
  ![0, v971.toNat, 0]
def k0_dev26 (d0 : Dev nD) : Nat :=
  let c0_i32_819 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_818 : BitVec 32 := 8#32
  let v990 : BitVec 32 := Scalar.muli v14 c8_i32_818
  let v991 : BitVec 32 := Scalar.addi c0_i32_819 v990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_820 : BitVec 32 := 4#32
  let v992 : BitVec 32 := Scalar.muli v5 c4_i32_820
  let v993 : BitVec 32 := Scalar.addi v991 v992
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_821 : BitVec 32 := 1#32
  let v994 : BitVec 32 := Scalar.muli v8 c1_i32_821
  let v995 : BitVec 32 := Scalar.addi v993 v994
  v995.toNat
def k0_dev27 (d0 : Dev nD) : Nat :=
  let c0_i32_831 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_830 : BitVec 32 := 8#32
  let v1004 : BitVec 32 := Scalar.muli v2 c8_i32_830
  let v1005 : BitVec 32 := Scalar.addi c0_i32_831 v1004
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_832 : BitVec 32 := 4#32
  let v1006 : BitVec 32 := Scalar.muli v5 c4_i32_832
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_833 : BitVec 32 := 1#32
  let v1008 : BitVec 32 := Scalar.muli v12 c1_i32_833
  let v1009 : BitVec 32 := Scalar.addi v1007 v1008
  v1009.toNat
def k0_off5 (d0 : Dev nD) (c0_i32_21 : BitVec 32) : Fin 3 → Nat :=
  let c0_i32_867 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v15 : BitVec 32 := Scalar.muli v5 c2048_i32
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v24 : BitVec 32 := Scalar.subi c1_i32_12 v9
  let v25 : BitVec 32 := Scalar.addi v23 v24
  let c512_i32_13 : BitVec 32 := 512#32
  let v26 : BitVec 32 := Scalar.muli v25 c512_i32_13
  let v44 : BitVec 32 := Scalar.addi v26 c0_i32_21
  let v1059 : BitVec 32 := Scalar.addi v15 v44
  let c0_i32_872 : BitVec 32 := 0#32
  ![0, v1059.toNat, 0]
def k0_off6 (d0 : Dev nD) (c0_i32_20 : BitVec 32) : Fin 2 → Nat :=
  let c2_i32_9 : BitVec 32 := 2#32
  let c1_i32_8 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v19 : BitVec 32 := Scalar.subi c1_i32_8 v2
  let v20 : BitVec 32 := Scalar.muli c2_i32_9 v19
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v21 : BitVec 32 := Scalar.addi v20 v9
  let c512_i32_10 : BitVec 32 := 512#32
  let v22 : BitVec 32 := Scalar.muli v21 c512_i32_10
  let v43 : BitVec 32 := Scalar.addi v22 c0_i32_20
  let c0_i32_911 : BitVec 32 := 0#32
  ![v43.toNat, 0]
def k0_dev28 (d0 : Dev nD) : Nat :=
  let c0_i32_937 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_936 : BitVec 32 := 8#32
  let v1138 : BitVec 32 := Scalar.muli v14 c8_i32_936
  let v1139 : BitVec 32 := Scalar.addi c0_i32_937 v1138
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_938 : BitVec 32 := 4#32
  let v1140 : BitVec 32 := Scalar.muli v5 c4_i32_938
  let v1141 : BitVec 32 := Scalar.addi v1139 v1140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_939 : BitVec 32 := 1#32
  let v1142 : BitVec 32 := Scalar.muli v8 c1_i32_939
  let v1143 : BitVec 32 := Scalar.addi v1141 v1142
  v1143.toNat
def k0_off7 (d0 : Dev nD) (c0_i32_21 : BitVec 32) : Fin 2 → Nat :=
  let c2_i32_11 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.muli c2_i32_11 v2
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v24 : BitVec 32 := Scalar.subi c1_i32_12 v9
  let v25 : BitVec 32 := Scalar.addi v23 v24
  let c512_i32_13 : BitVec 32 := 512#32
  let v26 : BitVec 32 := Scalar.muli v25 c512_i32_13
  let v44 : BitVec 32 := Scalar.addi v26 c0_i32_21
  let c0_i32_970 : BitVec 32 := 0#32
  ![v44.toNat, 0]
def k0_dev29 (d0 : Dev nD) : Nat :=
  let c0_i32_1043 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1042 : BitVec 32 := 8#32
  let v1272 : BitVec 32 := Scalar.muli v14 c8_i32_1042
  let v1273 : BitVec 32 := Scalar.addi c0_i32_1043 v1272
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1044 : BitVec 32 := 4#32
  let v1274 : BitVec 32 := Scalar.muli v5 c4_i32_1044
  let v1275 : BitVec 32 := Scalar.addi v1273 v1274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1045 : BitVec 32 := 1#32
  let v1276 : BitVec 32 := Scalar.muli v8 c1_i32_1045
  let v1277 : BitVec 32 := Scalar.addi v1275 v1276
  v1277.toNat
def k0_dev30 (d0 : Dev nD) : Nat :=
  let c0_i32_1149 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1148 : BitVec 32 := 8#32
  let v1406 : BitVec 32 := Scalar.muli v14 c8_i32_1148
  let v1407 : BitVec 32 := Scalar.addi c0_i32_1149 v1406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1150 : BitVec 32 := 4#32
  let v1408 : BitVec 32 := Scalar.muli v5 c4_i32_1150
  let v1409 : BitVec 32 := Scalar.addi v1407 v1408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v1410 : BitVec 32 := Scalar.muli v8 c1_i32_1151
  let v1411 : BitVec 32 := Scalar.addi v1409 v1410
  v1411.toNat
def k0_dev31 (d0 : Dev nD) : Nat :=
  let c0_i32_1255 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_1254 : BitVec 32 := 8#32
  let v1540 : BitVec 32 := Scalar.muli v14 c8_i32_1254
  let v1541 : BitVec 32 := Scalar.addi c0_i32_1255 v1540
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1256 : BitVec 32 := 4#32
  let v1542 : BitVec 32 := Scalar.muli v5 c4_i32_1256
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1257 : BitVec 32 := 1#32
  let v1544 : BitVec 32 := Scalar.muli v8 c1_i32_1257
  let v1545 : BitVec 32 := Scalar.addi v1543 v1544
  v1545.toNat
def k0_dev32 (d0 : Dev nD) : Nat :=
  let c0_i32_1314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1313 : BitVec 32 := 8#32
  let v1614 : BitVec 32 := Scalar.muli v2 c8_i32_1313
  let v1615 : BitVec 32 := Scalar.addi c0_i32_1314 v1614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1315 : BitVec 32 := 4#32
  let v1616 : BitVec 32 := Scalar.muli v5 c4_i32_1315
  let v1617 : BitVec 32 := Scalar.addi v1615 v1616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1316 : BitVec 32 := 1#32
  let v1618 : BitVec 32 := Scalar.muli v12 c1_i32_1316
  let v1619 : BitVec 32 := Scalar.addi v1617 v1618
  v1619.toNat
def k0_dev33 (d0 : Dev nD) : Nat :=
  let c0_i32_1420 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1419 : BitVec 32 := 8#32
  let v1748 : BitVec 32 := Scalar.muli v2 c8_i32_1419
  let v1749 : BitVec 32 := Scalar.addi c0_i32_1420 v1748
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1421 : BitVec 32 := 4#32
  let v1750 : BitVec 32 := Scalar.muli v5 c4_i32_1421
  let v1751 : BitVec 32 := Scalar.addi v1749 v1750
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1422 : BitVec 32 := 1#32
  let v1752 : BitVec 32 := Scalar.muli v12 c1_i32_1422
  let v1753 : BitVec 32 := Scalar.addi v1751 v1752
  v1753.toNat
def k0_dev34 (d0 : Dev nD) : Nat :=
  let c0_i32_1526 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1525 : BitVec 32 := 8#32
  let v1882 : BitVec 32 := Scalar.muli v2 c8_i32_1525
  let v1883 : BitVec 32 := Scalar.addi c0_i32_1526 v1882
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1527 : BitVec 32 := 4#32
  let v1884 : BitVec 32 := Scalar.muli v5 c4_i32_1527
  let v1885 : BitVec 32 := Scalar.addi v1883 v1884
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1528 : BitVec 32 := 1#32
  let v1886 : BitVec 32 := Scalar.muli v12 c1_i32_1528
  let v1887 : BitVec 32 := Scalar.addi v1885 v1886
  v1887.toNat
def k0_dev35 (d0 : Dev nD) : Nat :=
  let c0_i32_1632 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1631 : BitVec 32 := 8#32
  let v2016 : BitVec 32 := Scalar.muli v2 c8_i32_1631
  let v2017 : BitVec 32 := Scalar.addi c0_i32_1632 v2016
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1633 : BitVec 32 := 4#32
  let v2018 : BitVec 32 := Scalar.muli v5 c4_i32_1633
  let v2019 : BitVec 32 := Scalar.addi v2017 v2018
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_1634 : BitVec 32 := 1#32
  let v2020 : BitVec 32 := Scalar.muli v12 c1_i32_1634
  let v2021 : BitVec 32 := Scalar.addi v2019 v2020
  v2021.toNat
def k0_off8 (d0 : Dev nD) (c0_i32_36 : BitVec 32) : Fin 3 → Nat :=
  let c0_i32_1668 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c2048_i32 : BitVec 32 := 2048#32
  let v15 : BitVec 32 := Scalar.muli v5 c2048_i32
  let c2_i32_15 : BitVec 32 := 2#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_14 v2
  let v28 : BitVec 32 := Scalar.muli c2_i32_15 v27
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v29 : BitVec 32 := Scalar.subi c1_i32_16 v9
  let v30 : BitVec 32 := Scalar.addi v28 v29
  let c512_i32_17 : BitVec 32 := 512#32
  let v31 : BitVec 32 := Scalar.muli v30 c512_i32_17
  let v59 : BitVec 32 := Scalar.addi v31 c0_i32_36
  let v2071 : BitVec 32 := Scalar.addi v15 v59
  let c0_i32_1673 : BitVec 32 := 0#32
  ![0, v2071.toNat, 0]
def k0_off9 (d0 : Dev nD) (c0_i32_36 : BitVec 32) : Fin 2 → Nat :=
  let c2_i32_15 : BitVec 32 := 2#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v27 : BitVec 32 := Scalar.subi c1_i32_14 v2
  let v28 : BitVec 32 := Scalar.muli c2_i32_15 v27
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v29 : BitVec 32 := Scalar.subi c1_i32_16 v9
  let v30 : BitVec 32 := Scalar.addi v28 v29
  let c512_i32_17 : BitVec 32 := 512#32
  let v31 : BitVec 32 := Scalar.muli v30 c512_i32_17
  let v59 : BitVec 32 := Scalar.addi v31 c0_i32_36
  let c0_i32_1759 : BitVec 32 := 0#32
  ![v59.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x4096x2048 : Shape := ⟨3, ![2, 4096, 2048]⟩
abbrev S2048 : Shape := ⟨1, ![2048]⟩
abbrev S_ : Shape := ⟨0, ![]⟩
abbrev S4096x2048 : Shape := ⟨2, ![4096, 2048]⟩
abbrev S4096 : Shape := ⟨1, ![4096]⟩
abbrev S4096x1 : Shape := ⟨2, ![4096, 1]⟩
abbrev S1x2048 : Shape := ⟨2, ![1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S1x2048, .f32⟩
  | .hbm, ⟨18, _⟩ => ⟨S4096x2048, .f32⟩
  | .hbm, ⟨19, _⟩ => ⟨S4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Prog.lean ====
/-
# `Prog`: the kernel's body as loops over chunks

The printed body is one straight line. It is the loops of the source unrolled: staging and first sends, first
forwards, second forwards, the two relayed groups, the waits for the sends. Here the same body is written as those
loops over steps that take the chunk's number, and the printed body is shown to be it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option backward.proofsInPublic true

noncomputable section

namespace Cert.K

open Cert.KernelIdeal Cert.KernelIdeal.Gen
open Idealize.ShloMosaic Idealize.SL.Sem

variable {F : FTy → Type} [FloatOps F]

/-! ## The rectangles and views -/

/-- A slot lies within its buffer, for two slots, -/
theorem inb2 : ∀ i : Fin 2, ∀ a, (![i.val, 0, 0] : Fin 3 → Nat) a + S1x64x2048.size a ≤ S2x64x2048.size a := by decide
/-- for eight, -/
theorem inb8 : ∀ i : Fin 8, ∀ a, (![i.val, 0, 0] : Fin 3 → Nat) a + S1x64x2048.size a ≤ S8x64x2048.size a := by decide
/-- and for four. -/
theorem inb4 : ∀ i : Fin 4, ∀ a, (![i.val, 0, 0] : Fin 3 → Nat) a + S1x64x2048.size a ≤ S4x64x2048.size a := by decide

/-- Slot `i` of a buffer of two, eight, four chunks. -/
abbrev rect2 (i : Fin 2) : Rect S2x64x2048 := Rect.unit (s := S2x64x2048) ![i.val, 0, 0] S1x64x2048.size (inb2 i)
abbrev rect8 (i : Fin 8) : Rect S8x64x2048 := Rect.unit (s := S8x64x2048) ![i.val, 0, 0] S1x64x2048.size (inb8 i)
abbrev rect4 (i : Fin 4) : Rect S4x64x2048 := Rect.unit (s := S4x64x2048) ![i.val, 0, 0] S1x64x2048.size (inb4 i)

/-- A slot of eight holds whole words, -/
theorem words8 : ∀ i : Fin 8, (rect8 i).WholeWords (EltTy.packing .bf16) := by decide
/-- so does one of four; -/
theorem words4 : ∀ i : Fin 4, (rect4 i).WholeWords (EltTy.packing .bf16) := by decide
/-- and its rows are packed. -/
theorem packed8 : ∀ i : Fin 8, (rect8 i).PackedRows (EltTy.packing .bf16) := by decide

abbrev xM : Memref sig .tc .hbm S1x4096x2048 .f32 := Memref.whole main_arg0
abbrev gM : Memref sig .tc .vmem S2048 .f32 := Memref.whole cc0_stg0_0
abbrev oM : Memref sig .tc .hbm S2048x2048 .f32 := Memref.whole main_v1
abbrev stgM : Memref sig .tc .vmem S2x64x2048 .f32 := Memref.whole cc0_scratch0
abbrev sndM : Memref sig .tc .vmem S8x64x2048 .bf16 := Memref.whole cc0_scratch1
abbrev ryM : Memref sig .tc .vmem S8x64x2048 .bf16 := Memref.whole cc0_scratch2
abbrev rxM : Memref sig .tc .vmem S8x64x2048 .bf16 := Memref.whole cc0_scratch3
abbrev rzM : Memref sig .tc .vmem S8x64x2048 .bf16 := Memref.whole cc0_scratch4
abbrev rxdM : Memref sig .tc .vmem S4x64x2048 .bf16 := Memref.whole cc0_scratch5
abbrev rzdM : Memref sig .tc .vmem S4x64x2048 .bf16 := Memref.whole cc0_scratch6
abbrev locM : Memref sig .tc .vmem S2x64x2048 .f32 := Memref.whole cc0_scratch7
abbrev outM : Memref sig .tc .vmem S2x64x2048 .f32 := Memref.whole cc0_scratch8

/-- A slot as a chunk of 64 rows. -/
abbrev v2 (b : Memref sig .tc .vmem S2x64x2048 .f32) (i : Fin 2) : Memref sig .tc .vmem S64x2048 .f32 :=
  (b.slice (rect2 i) (fun _ => rfl)).squeeze S64x2048 squeezes_S1x64x2048_S64x2048
abbrev v8 (b : Memref sig .tc .vmem S8x64x2048 .bf16) (i : Fin 8) : Memref sig .tc .vmem S64x2048 .bf16 :=
  (b.slice (rect8 i) (fun _ => rfl)).squeeze S64x2048 squeezes_S1x64x2048_S64x2048
abbrev v4 (b : Memref sig .tc .vmem S4x64x2048 .bf16) (i : Fin 4) : Memref sig .tc .vmem S64x2048 .bf16 :=
  (b.slice (rect4 i) (fun _ => rfl)).squeeze S64x2048 squeezes_S1x64x2048_S64x2048

/-- A semaphore lies within its array, for two, -/
theorem inbS2 : ∀ i : Fin 2, ∀ a, (![i.val] : Fin 1 → Nat) a + S1.size a ≤ S2.size a := by decide
/-- for eight, -/
theorem inbS8 : ∀ i : Fin 8, ∀ a, (![i.val] : Fin 1 → Nat) a + S1.size a ≤ S8.size a := by decide
/-- and for four. -/
theorem inbS4 : ∀ i : Fin 4, ∀ a, (![i.val] : Fin 1 → Nat) a + S1.size a ≤ S4.size a := by decide

abbrev s2 (b : DmaSems sig S2) (i : Fin 2) : DmaSem sig := ((b.slice (Rect.unit (s := S2) ![i.val] S1.size (inbS2 i))).squeeze S_ squeezes_S1_S_).sem
abbrev s8 (b : DmaSems sig S8) (i : Fin 8) : DmaSem sig := ((b.slice (Rect.unit (s := S8) ![i.val] S1.size (inbS8 i))).squeeze S_ squeezes_S1_S_).sem
abbrev s4 (b : DmaSems sig S4) (i : Fin 4) : DmaSem sig := ((b.slice (Rect.unit (s := S4) ![i.val] S1.size (inbS4 i))).squeeze S_ squeezes_S1_S_).sem

abbrev barS : Sem sig := (SemArray.scalar (sig.barrier 0 rfl) : Sems sig S_).sem

/-- The slot, of two, a chunk number uses. -/
def par (j : ℕ) : Fin 2 := ⟨j % 2, Nat.mod_lt _ (by decide)⟩

/-- The rows of the argument that chunk `k` of what this device sends is read from. -/
abbrev sendRow (d : Dev nD) (k : Fin 8) : Memref sig .tc .hbm S64x2048 .f32 :=
  (xM.slice (Rect.unit (s := S1x4096x2048) (k0_off1 d (BitVec.ofNat 32 (64 * k.val))) S1x64x2048.size (k0_off1_inb d k)) (fun _ => rfl)).squeeze
    S64x2048 squeezes_S1x64x2048_S64x2048

/-- Which of a group's eight chunks the result's chunk `j` is, and where the chunk lies: the first eight are this
    device's own group, the next sixteen alternate between the two neighbours' groups, the last eight are the far
    group. -/
def grp (j : ℕ) : Fin 8 := if j < 8 then ⟨j % 8, Nat.mod_lt _ (by decide)⟩ else if j < 24 then ⟨(j - 8) / 2 % 8, Nat.mod_lt _ (by decide)⟩ else ⟨(j - 24) % 8, Nat.mod_lt _ (by decide)⟩
def locOff (d : Dev nD) (j : ℕ) : Fin 3 → Nat :=
  if j < 8 then k0_off2 d (BitVec.ofNat 32 (64 * (grp j).val))
  else if j < 24 then (if j % 2 = 0 then k0_off4 d (BitVec.ofNat 32 (64 * (grp j).val)) else k0_off5 d (BitVec.ofNat 32 (64 * (grp j).val)))
  else k0_off8 d (BitVec.ofNat 32 (64 * (grp j).val))
def outOff (d : Dev nD) (j : ℕ) : Fin 2 → Nat :=
  if j < 8 then k0_off3 d (BitVec.ofNat 32 (64 * (grp j).val))
  else if j < 24 then (if j % 2 = 0 then k0_off6 d (BitVec.ofNat 32 (64 * (grp j).val)) else k0_off7 d (BitVec.ofNat 32 (64 * (grp j).val)))
  else k0_off9 d (BitVec.ofNat 32 (64 * (grp j).val))

/-- The rows that a local copy reads lie within the argument, -/
theorem locOff_inb (d : Dev nD) (j : ℕ) : ∀ a, locOff d j a + S1x64x2048.size a ≤ S1x4096x2048.size a := by
  unfold locOff; split
  · exact k0_off2_inb d _
  · split
    · split
      · exact k0_off4_inb d _
      · exact k0_off5_inb d _
    · exact k0_off8_inb d _
/-- and those that a write goes to within the result. -/
theorem outOff_inb (d : Dev nD) (j : ℕ) : ∀ a, outOff d j a + S64x2048.size a ≤ S2048x2048.size a := by
  unfold outOff; split
  · exact k0_off3_inb d _
  · split
    · split
      · exact k0_off6_inb d _
      · exact k0_off7_inb d _
    · exact k0_off9_inb d _

abbrev locRow (d : Dev nD) (j : ℕ) : Memref sig .tc .hbm S64x2048 .f32 :=
  (xM.slice (Rect.unit (s := S1x4096x2048) (locOff d j) S1x64x2048.size (locOff_inb d j)) (fun _ => rfl)).squeeze S64x2048 squeezes_S1x64x2048_S64x2048
abbrev outRow (d : Dev nD) (j : ℕ) : Memref sig .tc .hbm S64x2048 .f32 :=
  oM.slice (Rect.unit (s := S2048x2048) (outOff d j) S64x2048.size (outOff_inb d j)) (fun _ => rfl)

/-! ## The steps -/

abbrev P (F : FTy → Type) (α : Type) := Prog (TpuEff nD τ sig (Elt F) Λ₀ .tc) α

/-- Loop `n` times. -/
def seqN : (n : ℕ) → (Fin n → P F PUnit) → P F PUnit
  | 0, _ => pure ⟨⟩
  | n + 1, f => f 0 >>= fun _ => seqN n (fun i => f i.succ)

def whenP (b : Bool) (p : P F PUnit) : P F PUnit := match b with | true => p | false => pure ⟨⟩

def stageCp (d : Dev nD) (k : Fin 8) : P F PUnit :=
  Prog.lift (.enqueueDma (sendRow d k) (.here (v2 stgM (par k))) (.dma (s2 cc0_scratch9 (par k))) ((View.wordExact_bits rfl).reshape _ _) ((View.wordExact_bits rfl).reshape _ _) ⟨Or.inl rfl, trivial⟩)
def stageWait (d : Dev nD) (k : Fin 8) : P F PUnit :=
  Prog.lift (.waitDma2 (s2 cc0_scratch9 (par k)) (sendRow d k) (v2 stgM (par k)) ((View.wordExact_bits rfl).reshape _ _) ((View.wordExact_bits rfl).reshape _ _))
def localCp (d : Dev nD) (j : ℕ) : P F PUnit :=
  Prog.lift (.enqueueDma (locRow d j) (.here (v2 locM (par j))) (.dma (s2 cc0_scratch10 (par j))) ((View.wordExact_bits rfl).reshape _ _) ((View.wordExact_bits rfl).reshape _ _) ⟨Or.inl rfl, trivial⟩)
def localWait (d : Dev nD) (j : ℕ) : P F PUnit :=
  Prog.lift (.waitDma2 (s2 cc0_scratch10 (par j)) (locRow d j) (v2 locM (par j)) ((View.wordExact_bits rfl).reshape _ _) ((View.wordExact_bits rfl).reshape _ _))
def outCp (d : Dev nD) (j : ℕ) : P F PUnit :=
  Prog.lift (.enqueueDma (v2 outM (par j)) (.here (outRow d j)) (.dma (s2 cc0_scratch11 (par j))) ((View.wordExact_bits rfl).reshape _ _) (View.wordExact_bits rfl) ⟨Or.inl rfl, trivial⟩)
def outWait (d : Dev nD) (j : ℕ) : P F PUnit :=
  Prog.lift (.waitDma2 (s2 cc0_scratch11 (par j)) (v2 outM (par j)) (outRow d j) ((View.wordExact_bits rfl).reshape _ _) (View.wordExact_bits rfl))

/-- A slot of eight, copied word by word; -/
theorem we8 (b : Memref sig .tc .vmem S8x64x2048 .bf16) (hb : b.IsWhole) (hl : Kind.tc.statesLayout b.view.ref.space = true) (k : Fin 8) : (v8 b k).view.WordExact :=
  (hb.wordExact_slice hl _ (words8 k)).reshape _ _
/-- and one of four. -/
theorem we4 (b : Memref sig .tc .vmem S4x64x2048 .bf16) (hb : b.IsWhole) (hl : Kind.tc.statesLayout b.view.ref.space = true) (k : Fin 4) : (v4 b k).view.WordExact :=
  (hb.wordExact_slice hl _ (words4 k)).reshape _ _

def sendTo (n : Dev nD) (src dst : Memref sig .tc .vmem S64x2048 .bf16) (hs : src.view.WordExact) (hd : dst.view.WordExact) (ss rs : DmaSem sig) : P F PUnit :=
  Prog.lift (.enqueueDma src (.remote (Dev.tc n) dst (.dma ss)) (.dma rs) hs hd ⟨⟨rfl, Or.inl rfl⟩, trivial⟩)
def waitOn (s : DmaSem sig) (src dst : Memref sig .tc .vmem S64x2048 .bf16) (hs : src.view.WordExact) (hd : dst.view.WordExact) : P F PUnit :=
  Prog.lift (.waitDma2 s src dst hs hd)

def load2 (b : Memref sig .tc .vmem S2x64x2048 .f32) (i : Fin 2) : P F (Vec F S1x64x2048 .f32) :=
  Prog.lift (.load b (rect2 i).toLoadRect (View.loadsAt_vmem h_S1x64x2048))
def load8 (b : Memref sig .tc .vmem S8x64x2048 .bf16) (i : Fin 8) : P F (Vec F S1x64x2048 .bf16) :=
  Prog.lift (.load b (rect8 i).toLoadRect (View.loadsAt_vmem h_S1x64x2048))
def load4 (b : Memref sig .tc .vmem S4x64x2048 .bf16) (i : Fin 4) : P F (Vec F S1x64x2048 .bf16) :=
  Prog.lift (.load b (rect4 i).toLoadRect (View.loadsAt_vmem h_S1x64x2048))
def loadG : P F (Vec F S2048 .f32) :=
  Prog.lift (.load gM (Rect.unit (s := S2048) ![0] S2048.size inb_S2048_S2048_0).toLoadRect (View.loadsAt_vmem h_S2048))

/-- A sent chunk: the staged rows rounded to the wire's format. -/
abbrev wire (a : Vec F S1x64x2048 .f32) : FVec F S1x64x2048 .bf16 := k0_pay1 a
/-- A chunk of the result: the two devices' rows added, divided by their root mean square, scaled. -/
abbrev norm (a : Vec F S1x64x2048 .f32) (b : Vec F S1x64x2048 .bf16) (g : Vec F S2048 .f32) : FVec F S1x64x2048 .f32 := k0_pay11 a b g

def storeSnd (k : Fin 8) (a : Vec F S1x64x2048 .f32) : P F PUnit :=
  Prog.lift (.store sndM (rect8 k) (wire a) Finset.univ (View.stores_vmem h_S1x64x2048 ((Memref.isWhole_whole cc0_scratch1).storeExact_slice rfl _ (packed8 k)) (fun _ => rfl)) (.inl rfl))
def storeOut (i : Fin 2) (y : FVec F S1x64x2048 .f32) : P F PUnit :=
  Prog.lift (.store outM (rect2 i) y Finset.univ (View.stores_vmem_bits_univ h_S1x64x2048 rfl) (.inl rfl))

/-- Result chunk `j`, whose other half is read by `ld`. -/
def compute (d : Dev nD) (j : ℕ) (ld : P F (Vec F S1x64x2048 .bf16)) : P F PUnit := do
  localWait d j
  let a ← load2 locM (par j)
  let b ← ld
  whenP (Nat.ble 2 j) (outWait d (j - 2))
  let g ← loadG
  let _ ← load2 outM (par j)
  storeOut (par j) (norm a b g)
  outCp d j
  whenP (Nat.ble (j + 3) 32) (localCp d (j + 2))

abbrev devY (d : Dev nD) : Dev nD := ⟨k0_dev4 d, k0_dev4_lt d⟩
abbrev devX (d : Dev nD) : Dev nD := ⟨k0_dev12 d, k0_dev12_lt d⟩
abbrev devZ (d : Dev nD) : Dev nD := ⟨k0_dev13 d, k0_dev13_lt d⟩

abbrev weSnd := we8 sndM (Memref.isWhole_whole _) rfl
abbrev weY := we8 ryM (Memref.isWhole_whole _) rfl
abbrev weX := we8 rxM (Memref.isWhole_whole _) rfl
abbrev weZ := we8 rzM (Memref.isWhole_whole _) rfl
abbrev weXd := we4 rxdM (Memref.isWhole_whole _) rfl
abbrev weZd := we4 rzdM (Memref.isWhole_whole _) rfl

/-- Chunk `k + 4` of eight, chunk `k` of eight, for a chunk of four. -/
abbrev hi (k : Fin 4) : Fin 8 := ⟨k.val + 4, by omega⟩
abbrev lo (k : Fin 4) : Fin 8 := ⟨k.val, by omega⟩

/-- Stage chunk `k`, round it, send it to the neighbour along `y`. -/
def stepA (d : Dev nD) (k : Fin 8) : P F PUnit := do
  stageWait d k
  let a ← load2 stgM (par k)
  let _ ← load8 sndM k
  storeSnd k a
  sendTo (devY d) (v8 sndM k) (v8 ryM k) (weSnd k) (weY k) (s8 cc0_scratch12 k) (s8 cc0_scratch13 k)
  if h : k.val + 2 < 8 then stageCp d ⟨k.val + 2, h⟩ else pure ⟨⟩

/-- Receive chunk `k` from the neighbour along `y`, forward it along `x` and `z`, finish the result's chunk `k`. -/
def stepB (d : Dev nD) (k : Fin 8) : P F PUnit := do
  waitOn (s8 cc0_scratch13 k) (v8 sndM k) (v8 ryM k) (weSnd k) (weY k)
  sendTo (devX d) (v8 ryM k) (v8 rxM k) (weY k) (weX k) (s8 cc0_scratch14 k) (s8 cc0_scratch15 k)
  sendTo (devZ d) (v8 ryM k) (v8 rzM k) (weY k) (weZ k) (s8 cc0_scratch16 k) (s8 cc0_scratch17 k)
  compute d k.val (load8 ryM k)

/-- A chunk forwarded by the neighbour along `x`: received, relayed along `z` if it is in the upper half, used. -/
def stepC1 (d : Dev nD) (k : Fin 8) : P F PUnit := do
  waitOn (s8 cc0_scratch15 k) (v8 ryM k) (v8 rxM k) (weY k) (weX k)
  (if h : 4 ≤ k.val then
    sendTo (devZ d) (v8 rxM k) (v4 rzdM ⟨k.val - 4, by omega⟩) (weX k) (weZd ⟨k.val - 4, by omega⟩) (s4 cc0_scratch20 ⟨k.val - 4, by omega⟩) (s4 cc0_scratch21 ⟨k.val - 4, by omega⟩)
  else pure ⟨⟩) >>= fun _ => compute d (8 + 2 * k.val) (load8 rxM k)

/-- A chunk forwarded by the neighbour along `z`: received, relayed along `x` if it is in the lower half, used. -/
def stepC2 (d : Dev nD) (k : Fin 8) : P F PUnit := do
  waitOn (s8 cc0_scratch17 k) (v8 ryM k) (v8 rzM k) (weY k) (weZ k)
  (if h : k.val < 4 then
    sendTo (devX d) (v8 rzM k) (v4 rxdM ⟨k.val, h⟩) (weZ k) (weXd ⟨k.val, h⟩) (s4 cc0_scratch18 ⟨k.val, h⟩) (s4 cc0_scratch19 ⟨k.val, h⟩)
  else pure ⟨⟩) >>= fun _ => compute d (9 + 2 * k.val) (load8 rzM k)

def stepC (d : Dev nD) (k : Fin 8) : P F PUnit := do
  stepC1 d k
  stepC2 d k

/-- The two relayed halves of the far group. -/
def stepD (d : Dev nD) (k : Fin 4) : P F PUnit := do
  waitOn (s4 cc0_scratch19 k) (v8 rzM (lo k)) (v4 rxdM k) (weZ (lo k)) (weXd k)
  compute d (24 + k.val) (load4 rxdM k)
def stepE (d : Dev nD) (k : Fin 4) : P F PUnit := do
  waitOn (s4 cc0_scratch21 k) (v8 rxM (hi k)) (v4 rzdM k) (weX (hi k)) (weZd k)
  compute d (28 + k.val) (load4 rzdM k)

/-- The waits for what was sent. -/
def stepW (_d : Dev nD) (k : Fin 8) : P F PUnit := do
  waitOn (s8 cc0_scratch12 k) (v8 ryM k) (v8 sndM k) (weY k) (weSnd k)
  waitOn (s8 cc0_scratch14 k) (v8 rxM k) (v8 ryM k) (weX k) (weY k)
  waitOn (s8 cc0_scratch16 k) (v8 rzM k) (v8 ryM k) (weZ k) (weY k)
def stepV (_d : Dev nD) (k : Fin 4) : P F PUnit := do
  waitOn (s4 cc0_scratch18 k) (v4 rxdM k) (v8 rzM (lo k)) (weXd k) (weZ (lo k))
  waitOn (s4 cc0_scratch20 k) (v4 rzdM k) (v8 rxM (hi k)) (weZd k) (weX (hi k))

/-- The copies started and the neighbours told, before anything is sent. -/
def entry (d : Dev nD) : P F PUnit := do
  stageCp d 0
  stageCp d 1
  localCp d 0
  localCp d 1
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semWaitWord barS 3#32

def bodyOn (d : Dev nD) : P F PUnit := do
  entry d
  seqN 8 (stepA d)
  seqN 8 (stepB d)
  seqN 8 (stepC d)
  seqN 4 (stepD d)
  seqN 4 (stepE d)
  seqN 8 (stepW d)
  seqN 4 (stepV d)
  outWait d 30
  outWait d 31

/-- The whole body. -/
def body : P F PUnit := Prog.lift .deviceId >>= fun d => bodyOn d

/-- The printed body is these loops. -/
theorem body_eq : bodyAt0 (F := F) t0_0 = body := by chain_rfl

end Cert.K

end
-- ==== Proof.Base.lean ====
/-
# `Base`: what a core holds, and one rule per kind of step

Chunks of buffers held at their contents, the local copies (staging, this device's own rows, the result's rows), the
loads and stores of slots, and the rule for the loops.
-/
module

public import proofs.«01_k».proof.Proof.Prog
public import Idealize.ShloMosaic.Lib.Pipeline.Launch
public import Idealize.ShloMosaic.Lib.Pipeline.Kit
public import Idealize.ShloMosaic.Lib.Transfers
public import Idealize.ShloMosaic.Lib.Tactic

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

/-- The exchange's rounds, duties named by the axis of the neighbour that pays. -/
abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := Emb.inl.trans embR
abbrev EC : UEmb Counters (MT nD τ sig Unit (Elt F) ℕ UU ℕ) := countersEmb

instance : ER.LandsIn (upEmb : UEmb _ 𝕄) := inferInstance
instance : EC.LandsIn (upEmb : UEmb _ 𝕄) := inferInstance
instance : ∀ e, Nonempty (Elt F e) := inferInstance

abbrev 𝒱₀ : Variants := Variants.none

/-- The weakest precondition of a program on device `c`'s core. -/
abbrev WP {α : Type} (c : Dev nD) (p : P F α) (Q : α → sProp 𝕄) : sProp 𝕄 :=
  wp frame (wpE (defs₀ (F := F)) 𝒱₀ (c : Thread nD τ) none) Set.univ p Q

/-- A program followed by another: the second's precondition is what the first must reach. -/
theorem wp_then {α β : Type} {c : Dev nD} {p : P F α} {k : α → P F β} {Q : β → sProp 𝕄} :
    WP c p (fun a => WP c (k a) Q) ⊢ WP c (p >>= k) Q := Entails.of_eq (wp_bind _ _ _ _ _ _).symm

/-! ## Chunks held -/

section Held
variable {sp : Space} {s : Shape} {e : EltTy}

/-- The elements of `v` on device `c` at share `q`, reading `X`. -/
def held (c : Dev nD) (v : Memref sig .tc sp s e) (q : PosShare TreeShare) (X : s.Idx → Elt F e) : sProp 𝕄 :=
  v.view.loc (c : Thread nD τ) ↦[v.view.set]{q} v.view.rep X

/-- The elements of `v` on device `c`, whatever they hold. -/
def free (c : Dev nD) (v : Memref sig .tc sp s e) : sProp 𝕄 :=
  iprop(∃ f : Buf (Elt F) (v.view.loc (c : Thread nD τ)), v.view.loc (c : Thread nD τ) ↦[v.view.set]{fullShare} f)

instance held_storable (c : Dev nD) (v : Memref sig .tc sp s e) (q) (X : s.Idx → Elt F e) :
    BI.Storable (upEmb : UEmb _ 𝕄) (held c v q X) := by unfold held; infer_instance
instance free_storable (c : Dev nD) (v : Memref sig .tc sp s e) :
    BI.Storable (upEmb : UEmb _ 𝕄) (free (F := F) c v) := by unfold free; infer_instance

/-- Owning a view's elements is holding what they read. -/
theorem held_of (c : Dev nD) (v : Memref sig .tc sp s e) (q : PosShare TreeShare) (f : Buf (Elt F) (v.view.loc (c : Thread nD τ))) :
    (v.view.loc (c : Thread nD τ) ↦[v.view.set]{q} f : sProp 𝕄) = held c v q (v.view.read (Elt F) f) :=
  pointsTo_rep (c : Thread nD τ) v f q

/-- The same, for whatever the elements are known to read. -/
theorem held_of_read (c : Dev nD) (v : Memref sig .tc sp s e) (q : PosShare TreeShare) (f : Buf (Elt F) (v.view.loc (c : Thread nD τ)))
    {X : s.Idx → Elt F e} (h : v.view.read (Elt F) f = X) :
    (v.view.loc (c : Thread nD τ) ↦[v.view.set]{q} f : sProp 𝕄) = held c v q X := by rw [held_of, h]

/-- A chunk held whole is a chunk free. -/
theorem held_free (c : Dev nD) (v : Memref sig .tc sp s e) (X : s.Idx → Elt F e) : held c v fullShare X ⊢ (free c v : sProp 𝕄) := by
  unfold held free; iintro H; iexists _; iexact H

/-- A share of a chunk is its two halves. -/
theorem held_halves (c : Dev nD) (v : Memref sig .tc sp s e) (q : PosShare TreeShare) (X : s.Idx → Elt F e) :
    (held c v q X : sProp 𝕄) ⊣⊢ iprop(held c v q.left X ∗ held c v q.right X) := by
  unfold held; exact pointsTo_share (PosShare.mem_left_op_right q)

end Held

/-! ## One rule per kind of effect, over chunks held -/

/-- What the core owes, whatever waits it has recorded. -/
def OW (c : Dev nD) (O : CellTallies nD τ sig Unit) : sProp 𝕄 := iprop(∃ W, owes (c : Thread nD τ) O W)

section Effects
variable {sp sp' : Space} {s : Shape} {e : EltTy} {c : Dev nD}

/-- A local copy issued: its cell at zero becomes the copy in flight. -/
theorem wp_cp (src : Memref sig .tc sp s e) (dst : Memref sig .tc sp' s e) (sm : DmaSem sig) (q : PosShare TreeShare) (X : s.Idx → Elt F e)
    {hs : src.view.WordExact} {hd : dst.view.WordExact} {ht : DmaTarget.Typed (nD := nD) (τ := τ) (p := .tc) sp (.dma sm) (.here dst)}
    (N : ℕ) (hN : dst.view.dmaCredit = N) (hN0 : 0 < N) {Q : PUnit.{1} → sProp 𝕄} :
    iprop(held c src q X ∗ free c dst ∗ semVal ((c : Thread nD τ), SemLoc.dma sm) 0)
      ⊢ iprop((Flight EC (c : Thread nD τ) (.dma sm) () N iprop(held c dst fullShare X ∗ held c src q X) -∗ Q ⟨⟩)
          -∗ WP c (Prog.lift (.enqueueDma src (.here dst) (.dma sm) hs hd ht)) Q) := by
  have hw (f : Buf (Elt F) (dst.view.loc (c : Thread nD τ))) : dst.view.read (Elt F) (dst.view.write (Elt F) f (src.view.read (Elt F) (src.view.rep X)) Finset.univ) = X := by
    rw [View.read_write_univ, View.read_rep]
  have hm (f : Buf (Elt F) (dst.view.loc (c : Thread nD τ))) :
      iprop((dst.view.loc (c : Thread nD τ) ↦[dst.view.set]{fullShare} (dst.view.write (Elt F) f (src.view.read (Elt F) (src.view.rep X)) Finset.univ))
        ∗ (src.view.loc (c : Thread nD τ) ↦[src.view.set]{q} src.view.rep X)) ⊢ (iprop(held c dst fullShare X ∗ held c src q X) : sProp 𝕄) := by
    rw [held_of_read c dst fullShare _ (hw f)]
    exact Entails.refl _
  unfold free
  iintro ⟨Hs, ⟨%f, Hd⟩, Hv⟩ Hk
  iapply (Transfers.wp_dmaLocal EC 𝒱₀ (c : Thread nD τ) none (fs := src.view.rep X) (fd := f) (q := q) () N (show dst.view.amount (.dma sm) = N from hN) hN0 (Finset.Subset.refl _)) $$ [Hs Hd Hv]
  · isplitl [Hs]; · unfold held; iexact Hs
    isplitl [Hd] <;> iassumption
  iintro Hf
  rw [wp_ret]; imodintro
  iapply Hk
  iapply (Transfers.Flight_mono EC (c : Thread nD τ) (hm f)) $$ Hf

/-- Its wait: what it delivers, its cell at zero again. -/
theorem wp_wt (sem : DmaSem sig) (src : Memref sig .tc sp s e) (dst : Memref sig .tc sp' s e) {hs : src.view.WordExact} {hd : dst.view.WordExact}
    (N : ℕ) (hN : dst.view.dmaCredit = N) (D : sProp 𝕄) (O : CellTallies nD τ sig Unit) {Q : PUnit.{1} → sProp 𝕄} :
    iprop(Flight EC (c : Thread nD τ) (.dma sem) () N D ∗ OW c O ∗ MayWait (c : Thread nD τ) (.dma sem) () O)
      ⊢ iprop(((D ∗ semVal ((c : Thread nD τ), SemLoc.dma sem) 0 ∗ OW c O) -∗ Q ⟨⟩) -∗ WP c (Prog.lift (.waitDma2 sem src dst hs hd)) Q) := by
  unfold OW
  iintro ⟨Hf, ⟨%W, HO⟩, HM⟩ Hk
  iapply (Transfers.wp_waitLocalO EC 𝒱₀ (c : Thread nD τ) none () hN) $$ [Hf HO HM]
  · isplitl [Hf]; · iexact Hf
    isplitl [HO] <;> iassumption
  iintro ⟨HD, Hv, HO⟩
  rw [wp_ret]; imodintro
  iapply Hk
  isplitl [HD]; · iexact HD
  isplitl [Hv]; · iexact Hv
  iexists _; iexact HO

end Effects

/-! ## Slots, loaded and stored through their rectangles -/

/-- A chunk of a shape with unit axes, without them; -/
def sq {α : Type} {s t : Shape} (h : s.Squeezes t) (w : s.Idx → α) : t.Idx → α := fun x => w (Shape.reshapeEquiv h.numel_eq x)
/-- and with them. -/
def unsq {α : Type} {s t : Shape} (h : s.Squeezes t) (X : t.Idx → α) : s.Idx → α := fun y => X ((Shape.reshapeEquiv h.numel_eq).symm y)

/-- Taking the unit axes off and putting them back changes nothing, -/
theorem unsq_sq {α : Type} {s t : Shape} (h : s.Squeezes t) (w : s.Idx → α) : unsq h (sq h w) = w := by
  funext y; unfold unsq sq; rw [Equiv.apply_symm_apply]
/-- nor does the other order. -/
theorem sq_unsq {α : Type} {s t : Shape} (h : s.Squeezes t) (X : t.Idx → α) : sq h (unsq h X) = X := by
  funext y; unfold unsq sq; exact congrArg X (Equiv.symm_apply_apply _ _)

section Slots
variable {s t : Shape} {e : EltTy} {c : Dev nD}

/-- A squeezed slice reads what the slice reads, without its unit axes, -/
theorem squeeze_read (b : Memref sig .tc .vmem s e) (r : Rect s) (h1 : ∀ a, r.stride a = 1) (hq : r.shape.Squeezes t)
    (g : b.view.ty.Contents (Elt F)) : ((b.slice r h1).squeeze t hq).view.read (Elt F) g = sq hq ((b.view.slice r).read (Elt F) g) := rfl

/-- and has the slice's elements. -/
theorem squeeze_set (b : Memref sig .tc .vmem s e) (r : Rect s) (h1 : ∀ a, r.stride a = 1) (hq : r.shape.Squeezes t) :
    ((b.slice r h1).squeeze t hq).view.set = (b.view.slice r).set := View.set_reshape _ _

/-- A load of a slot reads the chunk held there, at any share. -/
theorem wp_loadSlot {b : Memref sig .tc .vmem s e} {r : Rect s} (h1 : ∀ a, r.stride a = 1) (hq : r.shape.Squeezes t) {hl : b.view.LoadsAt r.toLoadRect}
    (q : PosShare TreeShare) (X : t.Idx → Elt F e) {Q : (r.shape.Idx → Elt F e) → sProp 𝕄} :
    held c ((b.slice r h1).squeeze t hq) q X
      ⊢ iprop((held c ((b.slice r h1).squeeze t hq) q X -∗ Q (unsq hq X)) -∗ WP c (Prog.lift (.load b r.toLoadRect hl)) Q) := by
  iintro H Hk
  have hX : b.view.readAt (Elt F) r.toLoadRect (((b.slice r h1).squeeze t hq).view.rep X) = unsq hq X := by
    rw [View.readAt_rect, ← unsq_sq hq ((b.view.slice r).read (Elt F) _), ← squeeze_read b r h1 hq, View.read_rep]
  iapply (wp_load_rect 𝒱₀ (c : Thread nD τ) none Set.univ (m := b) (r := r) (S := ((b.slice r h1).squeeze t hq).view.set) (q := q) (f := ((b.slice r h1).squeeze t hq).view.rep X)
    (le_of_eq (squeeze_set b r h1 hq).symm)) $$ [H]
  · unfold held; iexact H
  iintro H
  rw [wp_ret]; imodintro
  rw [show (b.access r).read (Elt F) (((b.slice r h1).squeeze t hq).view.rep X) = unsq hq X from hX]
  iapply Hk
  unfold held; iexact H

/-- A load of a slot whatever it holds. -/
theorem wp_loadFree {b : Memref sig .tc .vmem s e} {r : Rect s} (h1 : ∀ a, r.stride a = 1) (hq : r.shape.Squeezes t) {hl : b.view.LoadsAt r.toLoadRect}
    {Q : (r.shape.Idx → Elt F e) → sProp 𝕄} :
    free c ((b.slice r h1).squeeze t hq)
      ⊢ iprop((∀ w, free c ((b.slice r h1).squeeze t hq) -∗ Q w) -∗ WP c (Prog.lift (.load b r.toLoadRect hl)) Q) := by
  have h : ∀ f, (((b.slice r h1).squeeze t hq).view.loc (c : Thread nD τ) ↦[((b.slice r h1).squeeze t hq).view.set]{fullShare} f : sProp 𝕄)
      ⊢ held c ((b.slice r h1).squeeze t hq) fullShare (((b.slice r h1).squeeze t hq).view.read (Elt F) f) := fun f => Entails.of_eq (held_of c _ _ f)
  unfold free
  iintro ⟨%f, H⟩ Hk
  ihave H := (h f) $$ H
  iapply (wp_loadSlot h1 hq) $$ H
  iintro H
  iapply Hk
  iexists _; unfold held; iexact H

/-- A store to a slot. -/
theorem wp_storeSlot {b : Memref sig .tc .vmem s e} {r : Rect s} (h1 : ∀ a, r.stride a = 1) (hq : r.shape.Squeezes t) {w : r.shape.Idx → Elt F e}
    {hx : (b.access r).Stores Finset.univ} {hm : (Finset.univ : Finset r.shape.Idx) = Finset.univ ∨ ∀ a, r.stride a = 1} {Q : PUnit.{1} → sProp 𝕄} :
    free c ((b.slice r h1).squeeze t hq)
      ⊢ iprop((held c ((b.slice r h1).squeeze t hq) fullShare (sq hq w) -∗ Q ⟨⟩) -∗ WP c (Prog.lift (.store b r w Finset.univ hx hm)) Q) := by
  unfold free
  iintro ⟨%f, H⟩ Hk
  iapply (wp_store 𝒱₀ (c : Thread nD τ) none Set.univ (m := b) (r := r) (S := ((b.slice r h1).squeeze t hq).view.set) (f := f)
    (le_of_eq (squeeze_set b r h1 hq).symm)) $$ H
  iintro H
  rw [wp_ret]; imodintro
  iapply Hk
  rw [← held_of_read c _ fullShare ((b.access r).write (Elt F) f w Finset.univ) (X := sq hq w)
    (by rw [squeeze_read]; exact congrArg (sq hq) (View.read_write_univ (v := b.view.slice r) f w))]
  iexact H

end Slots

/-! ## Loops -/

/-- The product over `n + 1` indices, its first factor apart. -/
theorem univ_succ {n : ℕ} (Φ : Fin (n + 1) → sProp 𝕄) :
    bigSep Finset.univ Φ = iprop(Φ 0 ∗ bigSep Finset.univ fun i : Fin n => Φ i.succ) := by
  rw [bigSep_univ_split (0 : Fin (n + 1)), ← show _ = bigSep Finset.univ (fun i : Fin n => Φ i.succ) from bigSep_map (Fin.succEmb n)]
  refine congrArg (fun S => iprop(Φ 0 ∗ bigSep S Φ)) ?_
  ext i
  simp only [Finset.mem_map, Finset.mem_erase, Finset.mem_univ, true_and, Fin.coe_succEmb, and_true]
  exact Fin.exists_succ_eq.symm

/-- A loop: a state carried from step to step, and each step's own resources turned into what it leaves. -/
theorem wp_seqN {c : Dev nD} (n : ℕ) (f : Fin n → P F PUnit) (R : ℕ → sProp 𝕄) (B A : Fin n → sProp 𝕄) (Q : PUnit.{1} → sProp 𝕄)
    (step : ∀ (k : Fin n) (Q : PUnit.{1} → sProp 𝕄), iprop(R k.val ∗ B k) ⊢ iprop((R (k.val + 1) ∗ A k -∗ Q ⟨⟩) -∗ WP c (f k) Q)) :
    iprop(R 0 ∗ bigSep Finset.univ B) ⊢ iprop((R n ∗ bigSep Finset.univ A -∗ Q ⟨⟩) -∗ WP c (seqN n f) Q) := by
  induction n generalizing R Q with
  | zero =>
    rw [Finset.univ_eq_empty, bigSep_empty, bigSep_empty, show WP c (seqN 0 f) Q = iprop(|={Set.univ}=> Q ⟨⟩) from rfl]
    iintro ⟨HR, HB⟩ Hk
    imodintro
    iapply Hk
    isplitl [HR] <;> iassumption
  | succ n ih =>
    rw [univ_succ, univ_succ, show seqN (n + 1) f = (f 0 >>= fun _ => seqN n (fun i => f i.succ)) from rfl]
    iintro ⟨HR, HB0, HB⟩ Hk
    iapply wp_then
    have h0 : iprop(R 0 ∗ B 0) ⊢ iprop((R (0 + 1) ∗ A 0 -∗ WP c (seqN n (fun i => f i.succ)) Q) -∗ WP c (f 0) (fun _ => WP c (seqN n (fun i => f i.succ)) Q)) := by
      have h := step 0 (fun _ => WP c (seqN n (fun i => f i.succ)) Q)
      rw [Fin.val_zero] at h
      exact h
    iapply h0 $$ [HR HB0]
    · isplitl [HR]; · iexact HR
      iexact HB0
    iintro ⟨HR, HA0⟩
    have h1 : iprop(R (0 + 1) ∗ bigSep Finset.univ fun i : Fin n => B i.succ)
        ⊢ iprop((R (n + 1) ∗ (bigSep Finset.univ fun i : Fin n => A i.succ) -∗ Q ⟨⟩) -∗ WP c (seqN n (fun i => f i.succ)) Q) :=
      ih (fun i => f i.succ) (fun j => R (j + 1)) (fun i => B i.succ) (fun i => A i.succ) Q (fun k Q => step k.succ Q)
    iapply h1 $$ [HR HB]
    · isplitl [HR]; · iexact HR
      iexact HB
    iintro ⟨HR, HA⟩
    iapply Hk
    isplitl [HR]; · iexact HR
    isplitl [HA0] <;> iassumption

end Cert.K

end
-- ==== Proof.Links.lean ====
/-
# `Links`: the chunks that cross between devices

Every transfer between devices is a link: which chunk it moves, to which neighbour, over which pair of semaphores, and
what it carries. The round schedule of the semaphores, what a core owes, and the levels of the waits are stated over
links, so that the rules of the steps are proved once.
-/
module

public import proofs.«01_k».proof.Proof.Base

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The links -/

/-- A link: a first send along `y`, a forward along `x` or `z`, a relay along `x` or `z`. -/
abbrev Lk : Type := Fin 8 ⊕ Fin 8 ⊕ Fin 8 ⊕ Fin 4 ⊕ Fin 4
@[match_pattern] abbrev Lk.y (k : Fin 8) : Lk := .inl k
@[match_pattern] abbrev Lk.x (k : Fin 8) : Lk := .inr (.inl k)
@[match_pattern] abbrev Lk.z (k : Fin 8) : Lk := .inr (.inr (.inl k))
@[match_pattern] abbrev Lk.xd (k : Fin 4) : Lk := .inr (.inr (.inr (.inl k)))
@[match_pattern] abbrev Lk.zd (k : Fin 4) : Lk := .inr (.inr (.inr (.inr k)))

instance instEqLk : DecidableEq Lk := inferInstance
instance instFinLk : Fintype Lk := inferInstance

/-- The axis a link crosses, as the barrier's duties name it. -/
def axis : Lk → Fin 3 | .y _ => 0 | .x _ => 1 | .z _ => 2 | .xd _ => 1 | .zd _ => 2
/-- The neighbour along an axis. -/
def nbr : Fin 3 → Dev nD → Dev nD | 0 => devY | 1 => devX | 2 => devZ
abbrev peer (ℓ : Lk) (c : Dev nD) : Dev nD := nbr (axis ℓ) c

def src : Lk → Memref sig .tc .vmem S64x2048 .bf16
  | .y k => v8 sndM k | .x k => v8 ryM k | .z k => v8 ryM k | .xd k => v8 rzM (lo k) | .zd k => v8 rxM (hi k)
def dst : Lk → Memref sig .tc .vmem S64x2048 .bf16
  | .y k => v8 ryM k | .x k => v8 rxM k | .z k => v8 rzM k | .xd k => v4 rxdM k | .zd k => v4 rzdM k
def ss : Lk → DmaSem sig
  | .y k => s8 cc0_scratch12 k | .x k => s8 cc0_scratch14 k | .z k => s8 cc0_scratch16 k | .xd k => s4 cc0_scratch18 k | .zd k => s4 cc0_scratch20 k
def rs : Lk → DmaSem sig
  | .y k => s8 cc0_scratch13 k | .x k => s8 cc0_scratch15 k | .z k => s8 cc0_scratch17 k | .xd k => s4 cc0_scratch19 k | .zd k => s4 cc0_scratch21 k

/-- Each link's source is made of whole words, -/
theorem srcW : ∀ ℓ : Lk, (src ℓ).view.WordExact
  | .y k => weSnd k | .x k => weY k | .z k => weY k | .xd k => weZ (lo k) | .zd k => weX (hi k)
/-- and so is its destination. -/
theorem dstW : ∀ ℓ : Lk, (dst ℓ).view.WordExact
  | .y k => weY k | .x k => weX k | .z k => weZ k | .xd k => weXd k | .zd k => weZd k

/-- The share of its source a link reads through. -/
def shr : Lk → PosShare TreeShare
  | .y _ => fullShare | .x _ => fullShare.left | .z _ => fullShare.right.left | .xd _ => fullShare.left | .zd _ => fullShare.left

/-- Where a link stands in the order of a device's sends. -/
def ord : Lk → ℕ | .y k => k.val | .x k => 8 + 2 * k.val | .z k => 9 + 2 * k.val | .xd k => 24 + k.val | .zd k => 28 + k.val
/-- The level of its arrival. -/
def lvl : Lk → ℕ | .y _ => 2 | .x _ => 3 | .z _ => 3 | .xd _ => 4 | .zd _ => 4

/-- A neighbour's neighbour along the same axis is the device itself. -/
theorem nbr_nbr : ∀ (a : Fin 3) (c : Dev nD), nbr a (nbr a c) = c := by decide
/-- So is the peer's peer over a link. -/
theorem peer_peer (ℓ : Lk) (c : Dev nD) : peer ℓ (peer ℓ c) = c := nbr_nbr _ _
def nbrE (a : Fin 3) : Dev nD ≃ Dev nD := ⟨nbr a, nbr a, nbr_nbr a, nbr_nbr a⟩

/-- What a link's arrival credits. -/
def Nl (ℓ : Lk) : ℕ := (dst ℓ).view.dmaCredit
/-- A link's credit is positive, -/
theorem Nl_pos : ∀ ℓ : Lk, 0 < Nl ℓ
  | .y _ => View.dmaCredit_pos _ (by decide) | .x _ => View.dmaCredit_pos _ (by decide) | .z _ => View.dmaCredit_pos _ (by decide)
  | .xd _ => View.dmaCredit_pos _ (by decide) | .zd _ => View.dmaCredit_pos _ (by decide)
/-- and is its source's as well. -/
theorem src_credit : ∀ ℓ : Lk, (src ℓ).view.dmaCredit = Nl ℓ
  | .y _ => rfl | .x _ => rfl | .z _ => rfl | .xd _ => rfl | .zd _ => rfl

/-! ## The cells -/

/-- A cell of the exchange: the barrier's, or a link's departure or arrival. -/
abbrev CI : Type := Unit ⊕ (Lk × Bool)
@[match_pattern] abbrev bar : CI := .inl ()
@[match_pattern] abbrev dep (ℓ : Lk) : CI := .inr (ℓ, false)
@[match_pattern] abbrev arr (ℓ : Lk) : CI := .inr (ℓ, true)
instance instEqCI : DecidableEq CI := inferInstance
instance instFinCI : Fintype CI := inferInstance
def csem : CI → SemLoc sig
  | bar => .reg barS
  | dep ℓ => .dma (ss ℓ)
  | arr ℓ => .dma (rs ℓ)

/-- A semaphore's number, and which number a cell's is. -/
def semNo : SemLoc sig → ℕ | .reg _ => 0 | .dma s => s.val + 1
def ciNo : CI → ℕ
  | bar => 0
  | .inr (.y k, b) => 8 + (if b then 8 else 0) + k.val
  | .inr (.x k, b) => 24 + (if b then 8 else 0) + k.val
  | .inr (.z k, b) => 40 + (if b then 8 else 0) + k.val
  | .inr (.xd k, b) => 56 + (if b then 4 else 0) + k.val
  | .inr (.zd k, b) => 64 + (if b then 4 else 0) + k.val
def lkOf (n : ℕ) : Lk × Bool :=
  if n < 24 then (.y (fin8 n), decide (16 ≤ n)) else if n < 40 then (.x (fin8 n), decide (32 ≤ n))
  else if n < 56 then (.z (fin8 n), decide (48 ≤ n)) else if n < 64 then (.xd (fin4 n), decide (60 ≤ n)) else (.zd (fin4 n), decide (68 ≤ n))
where
  fin8 (n : ℕ) : Fin 8 := ⟨n % 8, Nat.mod_lt _ (by decide)⟩
  fin4 (n : ℕ) : Fin 4 := ⟨n % 4, Nat.mod_lt _ (by decide)⟩

/-- A cell's semaphore has the cell's number, -/
theorem semNo_csem : ∀ i : CI, semNo (csem i) = ciNo i := by decide
/-- from which the link is found again; -/
theorem lkOf_ciNo : ∀ p : Lk × Bool, lkOf (ciNo (.inr p)) = p := by decide
/-- no link's number is the barrier's. -/
theorem ciNo_pos : ∀ p : Lk × Bool, ciNo (.inr p) ≠ ciNo bar := by decide
/-- Different cells of a device have different semaphores, -/
theorem csem_inj : Function.Injective csem := fun i j h => by
  have h' : ciNo i = ciNo j := by rw [← semNo_csem, ← semNo_csem, h]
  rcases i with ⟨⟩ | p <;> rcases j with ⟨⟩ | p'
  · rfl
  · exact absurd h'.symm (ciNo_pos p')
  · exact absurd h' (ciNo_pos p)
  · rw [← lkOf_ciNo p, ← lkOf_ciNo p', h']

abbrev kcell (ci : Dev nD × CI) : GSem nD τ sig := ((ci.1 : Thread nD τ), csem ci.2)
abbrev barCell (c : Dev nD) : GSem nD τ sig := kcell (c, bar)
abbrev sendCell (ℓ : Lk) (c : Dev nD) : GSem nD τ sig := kcell (c, dep ℓ)
abbrev recvCell (ℓ : Lk) (c : Dev nD) : GSem nD τ sig := kcell (c, arr ℓ)
/-- and different cells of all devices are different. -/
theorem kcell_inj : Function.Injective kcell := by
  rintro ⟨c, i⟩ ⟨c', i'⟩ h
  obtain rfl : c = c' := congrArg (fun g : GSem nD τ sig => g.1.1) h
  obtain rfl : i = i' := csem_inj (congrArg Prod.snd h)
  rfl

/-! ## What the links carry -/

section Values
variable (m : (ℓ : Loc nD τ sig) → Buf (Elt F) ℓ)

/-- A chunk of 64 rows of a buffer, on the wire and in the result's format. -/
abbrev CB (F : FTy → Type) : Type := S64x2048.Idx → Elt F .bf16
abbrev CF (F : FTy → Type) : Type := S64x2048.Idx → Elt F .f32

abbrev hsq : S1x64x2048.Squeezes S64x2048 := squeezes_S1x64x2048_S64x2048

/-- The argument on a device, and the scale as the kernel reads it. -/
def arg (c : Dev nD) : Buf (Elt F) ((c : Thread nD τ).loc main_arg0) := m ((c : Thread nD τ).loc main_arg0)
def gam (c : Dev nD) : (cc0_stg0_0 : Ref sig .tc).ty.Contents (Elt F) :=
  (win0_0.blk (0 : Fin 1)).view.read (Elt F) (m ((c : Thread nD τ).loc main_arg1))

def stv (c : Dev nD) (k : Fin 8) : CF F := (sendRow c k).view.read (Elt F) (arg m c)
def locv (c : Dev nD) (j : ℕ) : CF F := (locRow c j).view.read (Elt F) (arg m c)
/-- What a device sends first, -/
def sy (k : Fin 8) (c : Dev nD) : CB F := sq hsq (wire (unsq hsq (stv m c k)))
/-- what it then holds from the neighbour along `y`, -/
def ly (k : Fin 8) (c : Dev nD) : CB F := sy m k (devY c)
/-- and from the others, forwarded and relayed. -/
def lx (k : Fin 8) (c : Dev nD) : CB F := ly m k (devX c)
def lz (k : Fin 8) (c : Dev nD) : CB F := ly m k (devZ c)

/-- What a link carries away from a device, -/
def sentv : Lk → Dev nD → CB F
  | .y k, c => sy m k c | .x k, c => ly m k c | .z k, c => ly m k c | .xd k, c => lz m (lo k) c | .zd k, c => lx m (hi k) c
/-- and brings to it. -/
def landed (ℓ : Lk) (c : Dev nD) : CB F := sentv m ℓ (peer ℓ c)

/-! ## The schedule -/

/-- What the payment of a cell's duty hands over: the barrier's, from a neighbour, the places there that this device
    will write; a departure's, its source back; an arrival's, the chunk landed. -/
def pay (c : Dev nD) : CI → Fin 3 → sProp 𝕄
  | bar, d => bigSep (Finset.univ.filter fun ℓ : Lk => axis ℓ = d) fun ℓ => free (nbr d c) (dst ℓ)
  | dep ℓ, _ => held c (src ℓ) (shr ℓ) (sentv m ℓ c)
  | arr ℓ, _ => held c (dst ℓ) fullShare (landed m ℓ c)

def dutiesOf : CI → Finset (Fin 3) | bar => Finset.univ | .inr _ => {0}
def amountOf' : CI → ℕ | bar => 1 | .inr (ℓ, _) => Nl ℓ

/-- One round: a barrier cell has a duty of one unit for each axis, every other cell one duty of its link's credit. -/
def Rd : Rounds.Schedule (GSem nD τ sig) (Fin 3) 𝕄 where
  duties g r := if r = 0 ∧ g.1.2 = .tc then Function.extend csem dutiesOf (fun _ => ∅) g.2 else ∅
  unitless _ := False
  amount g _ _ := Function.extend csem amountOf' (fun _ => 1) g.2
  payload g _ d := Function.extend csem (fun i => pay m g.1.1 i d) (fun _ => iprop(emp)) g.2
  amount_pos g _ _ _ := by
    by_cases h : ∃ i, csem i = g.2
    · obtain ⟨i, hi⟩ := h
      rw [← hi, csem_inj.extend_apply]
      rcases i with _ | ⟨ℓ, _⟩
      · exact Nat.one_pos
      · exact Nl_pos ℓ
    · rw [Function.extend_apply' _ _ _ h]; exact Nat.one_pos

instance pay_storable (c : Dev nD) (i : CI) (d : Fin 3) : BI.Storable (upEmb : UEmb _ 𝕄) (pay m c i d) := by
  rcases i with _ | ⟨ℓ, _ | _⟩ <;> (unfold pay; infer_instance)

instance Rd_storable (g : GSem nD τ sig) (r : ℕ) (d : Fin 3) : BI.Storable (upEmb : UEmb _ 𝕄) ((Rd m).payload g r d) := by
  show BI.Storable upEmb (Function.extend csem (fun i => pay m g.1.1 i d) (fun _ => iprop(emp)) g.2)
  by_cases h : ∃ i, csem i = g.2
  · obtain ⟨i, hi⟩ := h
    rw [← hi, csem_inj.extend_apply]; infer_instance
  · rw [Function.extend_apply' _ _ _ h]; infer_instance

/-- The duties of a cell's one round; -/
theorem duties_cell (c : Dev nD) (i : CI) : (Rd m).duties (kcell (c, i)) 0 = dutiesOf i := by
  dsimp only [Rd]; rw [if_pos ⟨rfl, rfl⟩, csem_inj.extend_apply]
/-- there are none later. -/
theorem duties_later (g : GSem nD τ sig) : ∀ r, 0 + 1 ≤ r → (Rd m).duties g r = ∅ :=
  fun r hr => by dsimp only [Rd]; rw [if_neg fun h => by omega]
/-- What a duty pays in, -/
theorem amount_cell (c : Dev nD) (i : CI) (d : Fin 3) : (Rd m).amount (kcell (c, i)) 0 d = amountOf' i := by
  dsimp only [Rd]; rw [csem_inj.extend_apply]
/-- and what it hands over. -/
theorem payload_cell (c : Dev nD) (i : CI) (d : Fin 3) : (Rd m).payload (kcell (c, i)) 0 d = pay m c i d := by
  dsimp only [Rd]; rw [csem_inj.extend_apply]

/-- A barrier's round is three units, -/
theorem expect_bar (c : Dev nD) : (Rd m).expect (barCell c) 0 = 3 := by
  unfold Schedule.expect Schedule.amountOf
  rw [duties_cell, Finset.sum_congr rfl fun d _ => amount_cell m c bar d]; rfl
/-- a link's round its credit. -/
theorem expect_link (c : Dev nD) (ℓ : Lk) (b : Bool) : (Rd m).expect (kcell (c, .inr (ℓ, b))) 0 = Nl ℓ := by
  unfold Schedule.expect Schedule.amountOf
  rw [duties_cell, Finset.sum_congr rfl fun d _ => amount_cell m c (.inr (ℓ, b)) d]; exact Finset.sum_singleton _ _

/-- A link's round hands over its one payload, -/
theorem rest_link (c : Dev nD) (ℓ : Lk) (b : Bool) :
    bigSep ((Rd m).duties (kcell (c, .inr (ℓ, b))) 0 \ ∅) (fun d => (Rd m).payload (kcell (c, .inr (ℓ, b))) 0 d) = pay m c (.inr (ℓ, b)) 0 := by
  rw [Finset.sdiff_empty, duties_cell, show dutiesOf (.inr (ℓ, b)) = {0} from rfl, bigSep_singleton, payload_cell]
/-- the barrier's the places on all peers. -/
theorem rest_bar (c : Dev nD) :
    bigSep ((Rd m).duties (barCell c) 0 \ ∅) (fun d => (Rd m).payload (barCell c) 0 d) ⊢ bigSep Finset.univ (fun ℓ : Lk => (free (peer ℓ c) (dst ℓ) : sProp 𝕄)) := by
  rw [Finset.sdiff_empty, duties_cell, bigSep_congr fun d _ => payload_cell m c bar d]
  show bigSep Finset.univ (fun d => bigSep (Finset.univ.filter fun ℓ : Lk => axis ℓ = d) fun ℓ => free (nbr d c) (dst ℓ)) ⊢ _
  rw [bigSep_congr fun d _ => bigSep_congr (Ψ := fun ℓ => (free (peer ℓ c) (dst ℓ) : sProp 𝕄)) fun ℓ hℓ => by rw [peer, (Finset.mem_filter.mp hℓ).2]]
  refine (bigSep_biUnion _ _).trans (Entails.of_eq (congrArg (fun S => bigSep S fun ℓ : Lk => (free (peer ℓ c) (dst ℓ) : sProp 𝕄)) ?_))
  ext ℓ; simp

end Values

/-! ## What a core owes, and the levels -/

/-- The arrivals' credits a device owes for the links of `S`; -/
def owe (S : Finset Lk) (c : Dev nD) : CellTallies nD τ sig Unit := ∑ ℓ ∈ S, tallyAt (recvCell ℓ (peer ℓ c)) () (Nl ℓ)
/-- those of links not sent yet, the first `n` being sent. -/
def todo (n : ℕ) : Finset Lk := Finset.univ.filter fun ℓ => n ≤ ord ℓ
/-- At launch: all of them, and a unit to each neighbour's barrier, in the order the body pays. -/
def O₀ (c : Dev nD) : CellTallies nD τ sig Unit :=
  owe (todo 0) c + tallyAt (barCell (devZ c)) () 1 + tallyAt (barCell (devX c)) () 1 + tallyAt (barCell (devY c)) () 1

/-- Sending over a link pays its arrival. -/
theorem owe_step (ℓ : Lk) (c : Dev nD) : owe (todo (ord ℓ)) c = owe (todo (ord ℓ + 1)) c + tallyAt (recvCell ℓ (peer ℓ c)) () (Nl ℓ) := by
  have h : todo (ord ℓ) = insert ℓ (todo (ord ℓ + 1)) := by revert ℓ; decide
  unfold owe
  rw [h, Finset.sum_insert (by simp [todo]), add_comm]
/-- After 32 sends nothing is owed. -/
theorem owe_done (c : Dev nD) : owe (todo 32) c = 0 := by
  unfold owe; rw [show todo 32 = ∅ from by decide, Finset.sum_empty]

/-- What is owed is owed to arrivals at peers. -/
theorem owe_pos {S : Finset Lk} {c : Dev nD} {g : GSem nD τ sig} {u : Unit} (h : 0 < owe S c g u) : ∃ ℓ ∈ S, g = recvCell ℓ (peer ℓ c) := by
  classical
  by_contra hn
  push Not at hn
  have : owe S c g u = 0 := by
    unfold owe
    rw [Finset.sum_apply, Finsupp.finset_sum_apply]
    exact Finset.sum_eq_zero fun ℓ hℓ => by rw [tallyAt_apply, if_neg fun h' => hn ℓ hℓ h'.1]
  omega

def L (g : GSem nD τ sig) : Finset Unit := if g.1.2 = .tc then {()} else ∅
def lvOf : CI → ℕ | bar => 1 | arr ℓ => lvl ℓ | dep _ => 0
/-- Barrier cells at 1, arrivals at their link's level, everything else at 0. -/
def lv (g : GSem nD τ sig) (_ : Unit) : ℕ := Function.extend csem lvOf (fun _ => 0) g.2

/-- The level of a cell of the exchange; -/
theorem lv_cell (c : Dev nD) (i : CI) : lv (kcell (c, i)) () = lvOf i := csem_inj.extend_apply _ _ _
/-- every other has level zero. -/
theorem lv_other (g : GSem nD τ sig) (h : ¬ ∃ i, csem i = g.2) : lv g () = 0 := Function.extend_apply' _ _ _ h
/-- Only the main cores' semaphores have levels. -/
theorem L_of_ne (g : GSem nD τ sig) (h : g.1.2 ≠ .tc) : L g = ∅ := if_neg h

/-- A wait is allowed when everything owed is of a higher level. -/
theorem mayWait_of (c : Dev nD) (s : SemLoc sig) (O : CellTallies nD τ sig Unit) (b : ℕ) (hb : lv ((c : Thread nD τ), s) () ≤ b)
    (hO : ∀ (g : GSem nD τ sig) (u : Unit), 0 < O g u → g.1.2 = .tc ∧ b < lv g ()) : (levAts L lv : sProp 𝕄) ⊢ MayWait (c : Thread nD τ) s () O :=
  MayOwe.of_cut (L := L) (lev := lv) b (fun p hp => by rw [Finset.mem_singleton.mp hp]; exact Finset.mem_singleton_self ())
    (fun g u h => by unfold L; rw [if_pos (hO g u h).1]; exact Finset.mem_singleton_self ())
    (fun p hp => by rw [Finset.mem_singleton.mp hp]; exact hb) (fun g u h => (hO g u h).2)

/-- A wait below the links still owed. -/
theorem mayWait_owe (c : Dev nD) (s : SemLoc sig) (S : Finset Lk) (h : ∀ ℓ ∈ S, lv ((c : Thread nD τ), s) () < lvl ℓ) :
    (levAts L lv : sProp 𝕄) ⊢ MayWait (c : Thread nD τ) s () (owe S c) :=
  mayWait_of c s _ _ le_rfl fun g u hg => by
    obtain ⟨ℓ, hℓ, rfl⟩ := owe_pos hg
    exact ⟨rfl, by rw [lv_cell]; exact h ℓ hℓ⟩

/-- Every arrival is above the barrier. -/
theorem lvl_pos : ∀ ℓ : Lk, 1 < lvl ℓ := by decide

attribute [irreducible] owe todo

end Cert.K

end
-- ==== Proof.Rules.lean ====
/-
# `Rules`: one rule per kind of exchange step, over links

Sending a link's chunk, waiting for its arrival, waiting for its departure; the signals and the wait of the entry
barrier. Each is proved for every link at once.
-/
module

public import proofs.«01_k».proof.Proof.Links

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- What every core knows: each cell's invariant, that it has reached its round, and the levels. -/
def records : sProp 𝕄 :=
  iprop((bigSep Finset.univ fun ci : Dev nD × CI => cellInv ER (Rd m) (K ci) (kcell ci))
    ∗ bigSep Finset.univ fun ci : Dev nD × CI => reached ER (kcell ci) 0)
def Ctx : sProp 𝕄 := iprop(records m K ∗ levAts L lv)

instance records_persistent : BI.Persistent (records m K) := by unfold records; infer_instance
instance Ctx_persistent : BI.Persistent (Ctx m K) := by unfold Ctx; infer_instance

/-- The invariant of any cell. -/
theorem inv_at (ci : Dev nD × CI) : Ctx m K ⊢ cellInv ER (Rd m) (K ci) (kcell ci) := by
  have h : (bigSep Finset.univ fun ci : Dev nD × CI => (cellInv ER (Rd m) (K ci) (kcell ci) : sProp 𝕄)) ⊢ cellInv ER (Rd m) (K ci) (kcell ci) := bigSep_elim (Finset.mem_univ ci)
  unfold Ctx records
  iintro ⟨⟨H, -⟩, -⟩; iapply h $$ H
/-- Any cell has reached its first round. -/
theorem reached_at (ci : Dev nD × CI) : Ctx m K ⊢ reached ER (kcell ci) 0 := by
  have h : (bigSep Finset.univ fun ci : Dev nD × CI => (reached ER (kcell ci) 0 : sProp 𝕄)) ⊢ reached ER (kcell ci) 0 := bigSep_elim (Finset.mem_univ ci)
  unfold Ctx records
  iintro ⟨⟨-, H⟩, -⟩; iapply h $$ H
variable (c : Dev nD)

/-- A wait below the links still owed is allowed. -/
theorem mayWait_at (s : SemLoc sig) (S : Finset Lk) (h : ∀ ℓ ∈ S, lv ((c : Thread nD τ), s) () < lvl ℓ) :
    Ctx m K ⊢ MayWait (c : Thread nD τ) s () (owe S c) := by
  unfold Ctx; iintro ⟨-, H⟩; iapply (mayWait_owe c s S h) $$ H

/-- What a device holds for a link before sending over it: the two duties, the place on the neighbour; -/
def toSend (ℓ : Lk) : sProp 𝕄 := iprop(dutyTok ER (sendCell ℓ c) 0 0 ∗ dutyTok ER (recvCell ℓ (peer ℓ c)) 0 0 ∗ free (peer ℓ c) (dst ℓ))
/-- to wait for what comes over it; -/
def toRecv (ℓ : Lk) : sProp 𝕄 := iprop(atPos ER (recvCell ℓ c) 0 ∅ 0 ∗ cred (tallyAt (recvCell ℓ c) () (Nl ℓ)))
/-- to wait for what it sent, once sent. -/
def sent (ℓ : Lk) : sProp 𝕄 := cred (tallyAt (sendCell ℓ c) () (Nl ℓ))

/-- Send over a link. -/
theorem wp_send (ℓ : Lk) {hs : (src ℓ).view.WordExact} {hd : (dst ℓ).view.WordExact} {Q : PUnit.{1} → sProp 𝕄} :
    iprop(Ctx m K ∗ toSend c ℓ ∗ held c (src ℓ) (shr ℓ) (sentv m ℓ c) ∗ OW c (owe (todo (ord ℓ)) c))
      ⊢ iprop(((sent c ℓ ∗ OW c (owe (todo (ord ℓ + 1)) c)) -∗ Q ⟨⟩) -∗ WP c (sendTo (peer ℓ c) (src ℓ) (dst ℓ) hs hd (ss ℓ) (rs ℓ)) Q) := by
  have hw (f : Buf (Elt F) ((dst ℓ).view.loc (peer ℓ c : Thread nD τ))) :
      (dst ℓ).view.read (Elt F) ((dst ℓ).view.write (Elt F) f ((src ℓ).view.read (Elt F) ((src ℓ).view.rep (sentv m ℓ c))) Finset.univ) = landed m ℓ (peer ℓ c) := by
    rw [View.read_write_univ, View.read_rep, landed, peer_peer]
  have key (f : Buf (Elt F) ((dst ℓ).view.loc (peer ℓ c : Thread nD τ))) (W : Waits sig Unit) :=
    Rounds.wp_send_pointsTo (Q := Q) (k := .ret) (hsrc := hs) (hdst := hd) (hsem := ⟨⟨rfl, Or.inl rfl⟩, trivial⟩) (hsc := rfl) (defs := defs₀ (F := F)) (Es := Set.univ) (Γ := .empty) 𝒱₀ ER (Rd m) (c : Thread nD τ) none (κ₁ := K (c, dep ℓ)) (κ₂ := K (peer ℓ c, arr ℓ))
    (src := src ℓ) (dst := dst ℓ) (c' := (peer ℓ c : Thread nD τ)) (r₁ := 0) (r₂ := 0) (d₁ := 0) (d₂ := 0) (fs := (src ℓ).view.rep (sentv m ℓ c)) (fd := f) (q := shr ℓ) (sS := .dma (ss ℓ)) (sem := .dma (rs ℓ))
    (show (0 : Fin 3) ∈ (Rd m).duties (sendCell ℓ c) 0 by rw [duties_cell]; exact Finset.mem_singleton_self _)
    (show (0 : Fin 3) ∈ (Rd m).duties (recvCell ℓ (peer ℓ c)) 0 by rw [duties_cell]; exact Finset.mem_singleton_self _)
    () () (Nl ℓ) rfl (amount_cell m c (dep ℓ) 0) (amount_cell m (peer ℓ c) (arr ℓ) 0) (owe (todo (ord ℓ + 1)) c) (owe_step ℓ c) (W := W)
    (Entails.of_eq (payload_cell m c (dep ℓ) 0).symm)
    (Entails.of_eq ((held_of_read (peer ℓ c) (dst ℓ) fullShare _ (hw f)).trans (payload_cell m (peer ℓ c) (arr ℓ) 0).symm))
  unfold toSend sent free OW sendTo
  iintro ⟨#HC, ⟨Ht1, Ht2, ⟨%f, Hd⟩⟩, Hs, ⟨%W, HO⟩⟩ Hk
  ihave #HI1 := (inv_at m K (c, dep ℓ)) $$ HC
  ihave #HI2 := (inv_at m K (peer ℓ c, arr ℓ)) $$ HC
  ihave #HR1 := (reached_at m K (c, dep ℓ)) $$ HC
  ihave #HR2 := (reached_at m K (peer ℓ c, arr ℓ)) $$ HC
  iapply (key f W) $$ [Ht1 Ht2 Hd Hs HO]
  · isplitr; · iexact HI1
    isplitr; · iexact HI2
    isplitl [Hs]; · unfold held; iexact Hs
    isplitl [Hd]; · iexact Hd
    isplitl [HO]; · iexact HO
    isplitl [Ht1]; · iexact Ht1
    isplitr; · iexact HR1
    isplitl [Ht2]; · iexact Ht2
    iexact HR2
  iintro ⟨Hcr, HO⟩
  rw [wp_ret]; imodintro
  iapply Hk
  isplitl [Hcr]; · iexact Hcr
  iexists W; iexact HO

/-- Wait for a cell's round of one duty, and close the cell: what the duty pays, the counter at zero. -/
theorem wp_cellWait (ℓ : Lk) (b : Bool) (sem : DmaSem sig) (hsem : csem (.inr (ℓ, b)) = .dma sem)
    (sw dw : Memref sig .tc .vmem S64x2048 .bf16) {hs : sw.view.WordExact} {hd : dw.view.WordExact} (hN : dw.view.dmaCredit = Nl ℓ)
    (O : CellTallies nD τ sig Unit) {Q : PUnit.{1} → sProp 𝕄} :
    iprop(Ctx m K ∗ atPos ER (kcell (c, .inr (ℓ, b))) 0 ∅ 0 ∗ cred (tallyAt (kcell (c, .inr (ℓ, b))) () (Nl ℓ)) ∗ OW c O ∗ MayWait (c : Thread nD τ) (csem (.inr (ℓ, b))) () O)
      ⊢ iprop(((pay m c (.inr (ℓ, b)) 0 ∗ semVal (kcell (c, .inr (ℓ, b))) 0 ∗ OW c O) -∗ Q ⟨⟩) -∗ WP c (waitOn sem sw dw hs hd) Q) := by
  have hrest := rest_link m c ℓ b
  unfold OW waitOn
  unfold kcell at *
  rw [hsem] at hrest ⊢
  iintro ⟨#HC, Hat, Hcr, ⟨%W, HO⟩, HM⟩ Hk
  ihave #HI := (inv_at m K (c, .inr (ℓ, b))) $$ HC
  unfold kcell
  iapply (Rounds.wp_wait_rest_token 𝒱₀ ER (Rd m) (c : Thread nD τ) none (κ := K (c, .inr (ℓ, b))) (wpE_waitDma2_eq 𝒱₀ (c : Thread nD τ) none Set.univ)
    (Set.mem_univ _) () (O := O) (W := W) (R := 0) (m := 0) (T := ∅) (by rw [Nat.zero_add, hN, ← hsem]; exact (expect_link m c ℓ b).symm)) $$ [Hat Hcr HO HM]
  · isplitr; · rw [← hsem]; iexact HI
    isplitl [Hcr]; · rw [hN]; iexact Hcr
    isplitl [HO]; · iexact HO
    isplitl [HM] <;> iassumption
  iintro ⟨HO, Hat, -, Hpay⟩
  imod (Rounds.cell_close ER (Rd m) (Set.mem_univ (K (c, .inr (ℓ, b)))) (fun h => h) (R := 0 + 1) (duties_later m ((c : Thread nD τ), SemLoc.dma sem))) $$ [Hat] with Hz
  · isplitr; · rw [← hsem]; iexact HI
    iexact Hat
  rw [wp_ret]; imodintro
  iapply Hk
  isplitl [Hpay]; · rw [← hrest]; iexact Hpay
  isplitl [Hz]; · iexact Hz
  iexists _; iexact HO

/-- Wait for what comes over a link, the links still owed being of higher level. -/
theorem wp_recv (ℓ : Lk) (n : ℕ) (hn : ∀ ℓ' ∈ todo n, lvl ℓ < lvl ℓ') {hs : (src ℓ).view.WordExact} {hd : (dst ℓ).view.WordExact} {Q : PUnit.{1} → sProp 𝕄} :
    iprop(Ctx m K ∗ toRecv c ℓ ∗ OW c (owe (todo n) c))
      ⊢ iprop(((held c (dst ℓ) fullShare (landed m ℓ c) ∗ semVal (recvCell ℓ c) 0 ∗ OW c (owe (todo n) c)) -∗ Q ⟨⟩) -∗ WP c (waitOn (rs ℓ) (src ℓ) (dst ℓ) hs hd) Q) := by
  unfold toRecv
  iintro ⟨#HC, ⟨Hat, Hcr⟩, HO⟩ Hk
  iapply (wp_cellWait m K c ℓ true (rs ℓ) rfl (src ℓ) (dst ℓ) rfl (owe (todo n) c)) $$ [Hat Hcr HO]
  · isplitr; · iexact HC
    isplitl [Hat]; · iexact Hat
    isplitl [Hcr]; · iexact Hcr
    isplitl [HO]; · iexact HO
    iapply (mayWait_at m K c (csem (arr ℓ)) (todo n) (fun ℓ' h => (lv_cell c (arr ℓ)).trans_lt (hn ℓ' h))); iexact HC
  iexact Hk

/-- Wait for what was sent over a link, everything having been sent. -/
theorem wp_sentWait (ℓ : Lk) {hs : (dst ℓ).view.WordExact} {hd : (src ℓ).view.WordExact} {Q : PUnit.{1} → sProp 𝕄} :
    iprop(Ctx m K ∗ sent c ℓ ∗ atPos ER (sendCell ℓ c) 0 ∅ 0 ∗ OW c (owe (todo 32) c))
      ⊢ iprop(((held c (src ℓ) (shr ℓ) (sentv m ℓ c) ∗ semVal (sendCell ℓ c) 0 ∗ OW c (owe (todo 32) c)) -∗ Q ⟨⟩) -∗ WP c (waitOn (ss ℓ) (dst ℓ) (src ℓ) hs hd) Q) := by
  unfold sent
  iintro ⟨#HC, Hcr, Hat, HO⟩ Hk
  iapply (wp_cellWait m K c ℓ false (ss ℓ) rfl (dst ℓ) (src ℓ) (src_credit ℓ) (owe (todo 32) c)) $$ [Hat Hcr HO]
  · isplitr; · iexact HC
    isplitl [Hat]; · iexact Hat
    isplitl [Hcr]; · iexact Hcr
    isplitl [HO]; · iexact HO
    rw [owe_done, MayWait_zero]; iempintro
  iexact Hk

/-- What a device hands the neighbour along `a` at the entry: the places here it will write. -/
def places (a : Fin 3) : sProp 𝕄 := bigSep (Finset.univ.filter fun ℓ : Lk => axis ℓ = a) fun ℓ => free c (dst ℓ)

/-- Tell the neighbour along `a`. -/
theorem wp_tell (a : Fin 3) (O : CellTallies nD τ sig Unit) {Q : PUnit.{1} → sProp 𝕄} :
    iprop(Ctx m K ∗ dutyTok ER (barCell (nbr a c)) 0 a ∗ places c a ∗ OW c (O + tallyAt (barCell (nbr a c)) () 1))
      ⊢ iprop((OW c O -∗ Q ⟨⟩) -∗ WP c (semSignalWord (nbr a c) barS 1#32) Q) := by
  unfold OW
  iintro ⟨#HC, Ht, Hp, ⟨%W, HO⟩⟩ Hk
  ihave #HI := (inv_at m K (nbr a c, bar)) $$ HC
  ihave #HR := (reached_at m K (nbr a c, bar)) $$ HC
  simp only [semSignalWord, Prog.lift]
  iapply (Rounds.wp_signal 𝒱₀ ER (Rd m) (c : Thread nD τ) none (dst := (nbr a c : Thread nD τ)) (κ := K (nbr a c, bar))
      (d := a) (show a ∈ (Rd m).duties (barCell (nbr a c)) 0 by rw [duties_cell]; exact Finset.mem_univ _)
      ((amount_cell m (nbr a c) bar a).trans (by decide)) () O rfl) $$ [HO Ht Hp]
  · isplitr; · iexact HI
    isplitl [HO]; · iexact HO
    isplitl [Ht]; · iexact Ht
    isplitl [Hp]
    · rw [show (Rd m).payload ((nbr a c : Thread nD τ), SemLoc.reg barS) 0 a = pay m (nbr a c) bar a from payload_cell m (nbr a c) bar a]
      unfold pay places
      simp only [nbr_nbr]
      iexact Hp
    iexact HR
  iintro HO
  rw [wp_ret]; imodintro
  iapply Hk
  iexists W; iexact HO

/-- Wait for the three neighbours: the places on them, and the barrier's cell closed. -/
theorem wp_barrier {Q : PUnit.{1} → sProp 𝕄} :
    iprop(Ctx m K ∗ atPos ER (barCell c) 0 ∅ 0 ∗ cred (tallyAt (barCell c) () 3) ∗ OW c (owe (todo 0) c))
      ⊢ iprop((((bigSep Finset.univ fun ℓ : Lk => free (peer ℓ c) (dst ℓ)) ∗ semVal (barCell c) 0 ∗ OW c (owe (todo 0) c)) -∗ Q ⟨⟩)
          -∗ WP c (semWaitWord barS 3#32) Q) := by
  have hrest : bigSep ((Rd m).duties ((c : Thread nD τ), SemLoc.reg barS) 0 \ ∅) (fun d => (Rd m).payload ((c : Thread nD τ), SemLoc.reg barS) 0 d)
      ⊢ bigSep Finset.univ (fun ℓ : Lk => (free (peer ℓ c) (dst ℓ) : sProp 𝕄)) := rest_bar m c
  unfold OW
  iintro ⟨#HC, Hat, Hcr, ⟨%W, HO⟩⟩ Hk
  ihave #HI := (inv_at m K (c, bar)) $$ HC
  simp only [semWaitWord, Prog.lift]
  iapply (Rounds.wp_wait_rest_token 𝒱₀ ER (Rd m) (c : Thread nD τ) none (κ := K (c, bar)) (wpE_semWait_eq 𝒱₀ (c : Thread nD τ) none Set.univ)
    (Set.mem_univ _) () (O := owe (todo 0) c) (W := W) (R := 0) (m := 0) (T := ∅) (by rw [show (Rd m).expect ((c : Thread nD τ), SemLoc.reg barS) 0 = 3 from expect_bar m c]; decide)) $$ [Hat Hcr HO]
  · isplitr; · iexact HI
    isplitl [Hcr]; · iexact Hcr
    isplitl [HO]; · iexact HO
    isplitr
    · iapply (mayWait_at m K c (.reg barS) (todo 0) (fun ℓ' _ => (lv_cell c bar).trans_lt (lvl_pos ℓ'))); iexact HC
    iexact Hat
  iintro ⟨HO, Hat, -, Hpay⟩
  ihave Hp := hrest $$ Hpay
  imod (Rounds.cell_close ER (Rd m) (Set.mem_univ (K (c, bar))) (fun h => h) (R := 0 + 1) (duties_later m (barCell c))) $$ [Hat] with Hz
  · isplitr; · iexact HI
    iexact Hat
  rw [wp_ret]; imodintro
  iapply Hk
  isplitl [Hp]; · iexact Hp
  isplitl [Hz]; · iexact Hz
  iexists _; iexact HO

end Cert.K

end
-- ==== Proof.Local.lean ====
/-
# `Local`: the copies within a device, and one chunk of the result

The argument's rows read by the staging copies and by the copies of this device's own rows, each through a share of
the whole argument; the result's rows as they are written; and the step that finishes one chunk of the result, proved
for any chunk and any slot its other half is read from.
-/
module

public import proofs.«01_k».proof.Proof.Rules
public import Idealize.SL.BI.BigOpNat

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-- A semaphore of the local copies may be waited for whatever is still owed. -/
theorem mayWait_low (s : SemLoc sig) (hs : 0 < semNo s ∧ semNo s < 8) (n : ℕ) : Ctx m K ⊢ MayWait (c : Thread nD τ) s () (owe (todo n) c) :=
  mayWait_at m K c s (todo n) fun ℓ _ => by
    rw [lv_other ((c : Thread nD τ), s)]
    · exact Nat.lt_of_succ_lt (lvl_pos ℓ)
    · rintro ⟨i, hi⟩
      have hi : csem i = s := hi
      have h1 : semNo s = ciNo i := by rw [← hi, semNo_csem]
      have h2 : ∀ i : CI, ciNo i = 0 ∨ 8 ≤ ciNo i := by decide
      rcases h2 i with h | h <;> omega

/-- The staging copies' semaphores have numbers below the links', -/
theorem low9 : ∀ i : Fin 2, 0 < semNo (.dma (s2 cc0_scratch9 i)) ∧ semNo (.dma (s2 cc0_scratch9 i)) < 8 := by decide
/-- so have those of the local reads -/
theorem low10 : ∀ i : Fin 2, 0 < semNo (.dma (s2 cc0_scratch10 i)) ∧ semNo (.dma (s2 cc0_scratch10 i)) < 8 := by decide
/-- and those of the result's writes. -/
theorem low11 : ∀ i : Fin 2, 0 < semNo (.dma (s2 cc0_scratch11 i)) ∧ semNo (.dma (s2 cc0_scratch11 i)) < 8 := by decide

/-- Two steps on, the same slot of two. -/
theorem par_two (n : ℕ) : par (n + 2) = par n := Fin.ext (Nat.add_mod_right n 2)

/-! ## Copies out of the argument -/

/-- The whole argument, at a share. -/
def xs (q : PosShare TreeShare) : sProp 𝕄 := ((c : Thread nD τ).loc main_arg0) ↦{q} arg m c

/-- 64 rows of the argument. -/
abbrev xRow (off : Fin 3 → Nat) (h : ∀ a, off a + S1x64x2048.size a ≤ S1x4096x2048.size a) : Memref sig .tc .hbm S64x2048 .f32 :=
  (xM.slice (Rect.unit (s := S1x4096x2048) off S1x64x2048.size h) (fun _ => rfl)).squeeze S64x2048 squeezes_S1x64x2048_S64x2048

section Rows
variable (off : Fin 3 → Nat) (h : ∀ a, off a + S1x64x2048.size a ≤ S1x4096x2048.size a)

def xv : CF F := (xRow off h).view.read (Elt F) (arg m c)
/-- The argument but for those rows. -/
def xRest (q : PosShare TreeShare) : sProp 𝕄 :=
  ((c : Thread nD τ).loc main_arg0) ↦[Finset.univ \ ((xRow off h).view.set : Finset (Idx ((c : Thread nD τ).loc main_arg0)))]{q} arg m c

/-- A share of the argument: the rows of a chunk, and the rest. -/
theorem xs_carve (q : PosShare TreeShare) : xs m c q ⊣⊢ (iprop(held c (xRow off h) q (xv m c off h) ∗ xRest m c off h q) : sProp 𝕄) := by
  have e : (held c (xRow off h) q (xv m c off h) : sProp 𝕄) = ((xRow off h).view.loc (c : Thread nD τ) ↦[(xRow off h).view.set]{q} arg m c : sProp 𝕄) :=
    (held_of c (xRow off h) q (arg m c)).symm
  rw [e]
  exact pointsTo_split_subset (Finset.subset_univ _)

variable (sm : DmaSem sig) (slot : Memref sig .tc .vmem S64x2048 .f32) (q : PosShare TreeShare)

/-- A slot with nothing on its way to it: its place, its semaphore, its share of the argument; -/
def idleX : sProp 𝕄 := iprop(free c slot ∗ semVal ((c : Thread nD τ), SemLoc.dma sm) 0 ∗ xs m c q)
/-- with rows on their way. -/
def flyX : sProp 𝕄 :=
  iprop(Flight EC (c : Thread nD τ) (.dma sm) () slot.view.dmaCredit iprop(held c slot fullShare (xv m c off h) ∗ held c (xRow off h) q (xv m c off h)) ∗ xRest m c off h q)

variable (hc : 0 < slot.view.dmaCredit)
include hc

/-- A copy of some rows of the argument into a slot, issued; -/
theorem wp_cpX {hs : (xRow off h).view.WordExact} {hd : slot.view.WordExact} {ht : DmaTarget.Typed (nD := nD) (τ := τ) (p := .tc) .hbm (.dma sm) (.here slot)}
    {Q : PUnit.{1} → sProp 𝕄} :
    idleX m c sm slot q ⊢ iprop((flyX m c off h sm slot q -∗ Q ⟨⟩) -∗ WP c (Prog.lift (.enqueueDma (xRow off h) (.here slot) (.dma sm) hs hd ht)) Q) := by
  have hx := (xs_carve m c off h q).1
  unfold idleX flyX
  iintro ⟨Hf, Hv, Hx⟩ Hk
  ihave Hx := hx $$ Hx
  icases Hx with ⟨Hr, Hx⟩
  iapply (wp_cp (xRow off h) slot sm q (xv m c off h) slot.view.dmaCredit rfl hc) $$ [Hr Hf Hv]
  · isplitl [Hr]; · iexact Hr
    isplitl [Hf] <;> iassumption
  iintro Hf
  iapply Hk
  isplitl [Hf] <;> iassumption

omit hc in
/-- and waited for. -/
theorem wp_wtX {hs : (xRow off h).view.WordExact} {hd : slot.view.WordExact} (hlow : 0 < semNo (.dma sm) ∧ semNo (.dma sm) < 8) (n : ℕ) {Q : PUnit.{1} → sProp 𝕄} :
    iprop(Ctx m K ∗ flyX m c off h sm slot q ∗ OW c (owe (todo n) c))
      ⊢ iprop(((held c slot fullShare (xv m c off h) ∗ semVal ((c : Thread nD τ), SemLoc.dma sm) 0 ∗ xs m c q ∗ OW c (owe (todo n) c)) -∗ Q ⟨⟩)
          -∗ WP c (Prog.lift (.waitDma2 sm (xRow off h) slot hs hd)) Q) := by
  have hx := (xs_carve m c off h q).2
  unfold flyX
  iintro ⟨#HC, ⟨Hf, Hx⟩, HO⟩ Hk
  iapply (wp_wt sm (xRow off h) slot slot.view.dmaCredit rfl iprop(held c slot fullShare (xv m c off h) ∗ held c (xRow off h) q (xv m c off h)) (owe (todo n) c)) $$ [Hf HO]
  · isplitl [Hf]; · iexact Hf
    isplitl [HO]; · iexact HO
    iapply (mayWait_low m K c (.dma sm) hlow n); iexact HC
  iintro ⟨⟨Hd, Hr⟩, Hv, HO⟩
  iapply Hk
  isplitl [Hd]; · iexact Hd
  isplitl [Hv]; · iexact Hv
  isplitl [Hr Hx]
  · iapply hx; isplitl [Hr] <;> iassumption
  iexact HO

end Rows

/-- The share of the argument a slot reads through: of the staging slots', of the own rows' slots. -/
def half (q : PosShare TreeShare) (i : Fin 2) : PosShare TreeShare := if i = 0 then q.left else q.right
def qSt (i : Fin 2) : PosShare TreeShare := half fullShare.left i
def qLo (i : Fin 2) : PosShare TreeShare := half fullShare.right i

def idleSt (i : Fin 2) : sProp 𝕄 := idleX m c (s2 cc0_scratch9 i) (v2 stgM i) (qSt i)
def idleLo (i : Fin 2) : sProp 𝕄 := idleX m c (s2 cc0_scratch10 i) (v2 locM i) (qLo i)
def flySt (k : Fin 8) : sProp 𝕄 := flyX m c (k0_off1 c (BitVec.ofNat 32 (64 * k.val))) (k0_off1_inb c k) (s2 cc0_scratch9 (par k)) (v2 stgM (par k)) (qSt (par k))
def flyLo (j : ℕ) : sProp 𝕄 := flyX m c (locOff c j) (locOff_inb c j) (s2 cc0_scratch10 (par j)) (v2 locM (par j)) (qLo (par j))
/-- The slot that chunk `n` uses, when its turn comes. -/
def slotSt (n : ℕ) : sProp 𝕄 := if h : n < 8 then flySt m c ⟨n, h⟩ else idleSt m c (par n)
def slotLo (n : ℕ) : sProp 𝕄 := if n < 32 then flyLo m c n else idleLo m c (par n)

/-- A slot's copy has a positive credit. -/
theorem credit2 (b : Memref sig .tc .vmem S2x64x2048 .f32) (i : Fin 2) : 0 < (v2 b i).view.dmaCredit := View.dmaCredit_pos _ (by decide)

/-- The copy that stages a chunk to be sent, issued, -/
theorem wp_stageCp (k : Fin 8) {Q : PUnit.{1} → sProp 𝕄} :
    idleSt m c (par k) ⊢ iprop((slotSt m c k.val -∗ Q ⟨⟩) -∗ WP c (stageCp c k) Q) := by
  unfold slotSt; rw [dif_pos k.isLt]
  exact wp_cpX m c _ _ _ _ _ (credit2 _ _)
/-- and waited for. -/
theorem wp_stageWait (k : Fin 8) (n : ℕ) {Q : PUnit.{1} → sProp 𝕄} :
    iprop(Ctx m K ∗ slotSt m c k.val ∗ OW c (owe (todo n) c))
      ⊢ iprop(((held c (v2 stgM (par k)) fullShare (stv m c k) ∗ semVal ((c : Thread nD τ), SemLoc.dma (s2 cc0_scratch9 (par k))) 0 ∗ xs m c (qSt (par k)) ∗ OW c (owe (todo n) c)) -∗ Q ⟨⟩)
          -∗ WP c (stageWait c k) Q) := by
  unfold slotSt; rw [dif_pos k.isLt]
  exact wp_wtX m K c _ _ _ _ _ (low9 _) n
/-- The copy of a chunk of the device's own rows, issued, -/
theorem wp_localCp (j : ℕ) (hj : j < 32) {Q : PUnit.{1} → sProp 𝕄} :
    idleLo m c (par j) ⊢ iprop((slotLo m c j -∗ Q ⟨⟩) -∗ WP c (localCp c j) Q) := by
  unfold slotLo; rw [if_pos hj]
  exact wp_cpX m c _ _ _ _ _ (credit2 _ _)
/-- and waited for. -/
theorem wp_localWait (j : ℕ) (hj : j < 32) (n : ℕ) {Q : PUnit.{1} → sProp 𝕄} :
    iprop(Ctx m K ∗ slotLo m c j ∗ OW c (owe (todo n) c))
      ⊢ iprop(((held c (v2 locM (par j)) fullShare (locv m c j) ∗ semVal ((c : Thread nD τ), SemLoc.dma (s2 cc0_scratch10 (par j))) 0 ∗ xs m c (qLo (par j)) ∗ OW c (owe (todo n) c)) -∗ Q ⟨⟩)
          -∗ WP c (localWait c j) Q) := by
  unfold slotLo; rw [if_pos hj]
  exact wp_wtX m K c _ _ _ _ _ (low10 _) n

/-! ## The result's chunks -/

/-- The other half of the result's chunk `j`, as it is received: first along `y`, then forwarded along `x` or `z`, then
    relayed. -/
def recvOf (j : ℕ) : CB F :=
  if j < 8 then ly m (grp j) c
  else if j < 24 then (if j % 2 = 0 then lx m (grp j) c else lz m (grp j) c)
  else if j < 28 then lz m (grp j) (devX c) else lx m (grp j) (devZ c)
/-- The result's chunk `j`. -/
def outv (j : ℕ) : CF F := sq hsq (norm (unsq hsq (locv m c j)) (unsq hsq (recvOf m c j)) (gam m c))

def idleOut (i : Fin 2) : sProp 𝕄 := iprop(free c (v2 outM i) ∗ semVal ((c : Thread nD τ), SemLoc.dma (s2 cc0_scratch11 i)) 0)
def flyOut (j : ℕ) : sProp 𝕄 :=
  Flight EC (c : Thread nD τ) (.dma (s2 cc0_scratch11 (par j))) () (outRow c j).view.dmaCredit
    iprop(held c (outRow c j) fullShare (outv m c j) ∗ held c (v2 outM (par j)) fullShare (outv m c j))
/-- The slot that chunk `j` of the result uses, when its turn comes; -/
def slotOut : ℕ → sProp 𝕄 | 0 => idleOut c 0 | 1 => idleOut c 1 | j + 2 => flyOut m c j
/-- the chunks written and waited for; -/
def doneOut (j : ℕ) : sProp 𝕄 := bigSep (Finset.range (j - 2)) fun i => held c (outRow c i) fullShare (outv m c i)
/-- the rows not yet written. -/
def restOut (j : ℕ) : sProp 𝕄 := bigSep (Finset.Ico j 32) fun i => free c (outRow c i)
def gamH : sProp 𝕄 := ((c : Thread nD τ).loc cc0_stg0_0) ↦{fullShare} gam m c

/-- What the step for chunk `j` of the result finds. -/
def CS (j : ℕ) : sProp 𝕄 :=
  iprop(slotLo m c j ∗ slotLo m c (j + 1) ∗ slotOut m c j ∗ slotOut m c (j + 1) ∗ doneOut m c j ∗ restOut c j ∗ gamH m c)

/-- The write of a chunk of the result, issued, -/
theorem wp_outCp (j : ℕ) {Q : PUnit.{1} → sProp 𝕄} :
    iprop(held c (v2 outM (par j)) fullShare (outv m c j) ∗ free c (outRow c j) ∗ semVal ((c : Thread nD τ), SemLoc.dma (s2 cc0_scratch11 (par j))) 0)
      ⊢ iprop((slotOut m c (j + 2) -∗ Q ⟨⟩) -∗ WP c (outCp c j) Q) :=
  wp_cp (v2 outM (par j)) (outRow c j) _ fullShare (outv m c j) _ rfl (View.dmaCredit_pos _ (by decide))

/-- and waited for. -/
theorem wp_outWait (j : ℕ) (n : ℕ) {Q : PUnit.{1} → sProp 𝕄} :
    iprop(Ctx m K ∗ slotOut m c (j + 2) ∗ OW c (owe (todo n) c))
      ⊢ iprop(((held c (outRow c j) fullShare (outv m c j) ∗ idleOut c (par j) ∗ OW c (owe (todo n) c)) -∗ Q ⟨⟩) -∗ WP c (outWait c j) Q) := by
  unfold slotOut flyOut idleOut
  iintro ⟨#HC, Hf, HO⟩ Hk
  iapply (wp_wt (s2 cc0_scratch11 (par j)) (v2 outM (par j)) (outRow c j) (outRow c j).view.dmaCredit rfl
    iprop(held c (outRow c j) fullShare (outv m c j) ∗ held c (v2 outM (par j)) fullShare (outv m c j)) (owe (todo n) c)) $$ [Hf HO]
  · isplitl [Hf]; · iexact Hf
    isplitl [HO]; · iexact HO
    iapply (mayWait_low m K c _ (low11 (par j)) n); iexact HC
  iintro ⟨⟨Hr, Hs⟩, Hv, HO⟩
  iapply Hk
  isplitl [Hr]; · iexact Hr
  isplitl [Hs Hv]
  · isplitl [Hs]; · iapply (held_free c (v2 outM (par j)) (outv m c j)) $$ Hs
    iexact Hv
  iexact HO

/-- The slot of chunk `j` made free: its earlier chunk, if it had one, waited for. -/
theorem wp_outFree (j n : ℕ) {Q : PUnit.{1} → sProp 𝕄} :
    iprop(Ctx m K ∗ slotOut m c j ∗ doneOut m c j ∗ OW c (owe (todo n) c))
      ⊢ iprop(((idleOut c (par j) ∗ doneOut m c (j + 1) ∗ OW c (owe (todo n) c)) -∗ Q ⟨⟩) -∗ WP c (whenP (Nat.ble 2 j) (outWait c (j - 2))) Q) := by
  match j with
  | 0 =>
    rw [show WP c (whenP (Nat.ble 2 0) (outWait c (0 - 2))) Q = iprop(|={Set.univ}=> Q ⟨⟩) from rfl, show slotOut m c 0 = idleOut c (par 0) from rfl,
      show doneOut m c (0 + 1) = doneOut m c 0 from rfl]
    iintro ⟨-, Hs, Hd, HO⟩ Hk
    imodintro; iapply Hk
    isplitl [Hs]; · iexact Hs
    isplitl [Hd] <;> iassumption
  | 1 =>
    rw [show WP c (whenP (Nat.ble 2 1) (outWait c (1 - 2))) Q = iprop(|={Set.univ}=> Q ⟨⟩) from rfl, show slotOut m c 1 = idleOut c (par 1) from rfl,
      show doneOut m c (1 + 1) = doneOut m c 1 from rfl]
    iintro ⟨-, Hs, Hd, HO⟩ Hk
    imodintro; iapply Hk
    isplitl [Hs]; · iexact Hs
    isplitl [Hd] <;> iassumption
  | j + 2 =>
    have hd : (doneOut m c (j + 2 + 1) : sProp 𝕄) = iprop(held c (outRow c j) fullShare (outv m c j) ∗ doneOut m c (j + 2)) := by
      unfold doneOut
      rw [show j + 2 + 1 - 2 = j + 1 from rfl, show j + 2 - 2 = j from rfl, bigSep_range_succ]
    rw [hd, par_two, show whenP (Nat.ble 2 (j + 2)) (outWait (F := F) c (j + 2 - 2)) = outWait c j from rfl]
    iintro ⟨#HC, Hs, Hd, HO⟩ Hk
    iapply (wp_outWait m K c j n) $$ [Hs HO]
    · isplitr; · iexact HC
      isplitl [Hs] <;> iassumption
    iintro ⟨Hr, Hs, HO⟩
    iapply Hk
    isplitl [Hs]; · iexact Hs
    isplitl [Hr Hd]; · isplitl [Hr] <;> iassumption
    iexact HO

/-- The scale read. -/
theorem wp_loadG {Q : Vec F S2048 .f32 → sProp 𝕄} :
    gamH m c ⊢ iprop((gamH m c -∗ Q (gam m c)) -∗ WP c loadG Q) := by
  have hg : gM.view.readAt (Elt F) (Rect.unit (s := S2048) ![0] S2048.size inb_S2048_S2048_0).toLoadRect (gam m c) = gam m c :=
    Memref.readAt_unit_zero (Elt F) cc0_stg0_0 (by funext a; fin_cases a; rfl) _ _
  unfold gamH loadG
  iintro H Hk
  iapply (wp_load_rect 𝒱₀ (c : Thread nD τ) none Set.univ (m := gM) (r := Rect.unit (s := S2048) ![0] S2048.size inb_S2048_S2048_0) (S := Finset.univ) (q := fullShare) (f := gam m c)
    (Finset.subset_univ _)) $$ [H]
  · iexact H
  iintro H
  rw [wp_ret]; imodintro
  rw [show (gM.access (Rect.unit (s := S2048) ![0] S2048.size inb_S2048_S2048_0)).read (Elt F) (gam m c) = gam m c from hg]
  iapply Hk
  iexact H

/-- The next local copy into the same slot, if there is one. -/
theorem wp_localNext (j : ℕ) (hj : j < 32) {Q : PUnit.{1} → sProp 𝕄} :
    idleLo m c (par j) ⊢ iprop((slotLo m c (j + 2) -∗ Q ⟨⟩) -∗ WP c (whenP (Nat.ble (j + 3) 32) (localCp c (j + 2))) Q) := by
  by_cases h : j + 2 < 32
  · rw [show Nat.ble (j + 3) 32 = true from Nat.ble_eq.mpr h, show whenP true (localCp (F := F) c (j + 2)) = localCp c (j + 2) from rfl, ← par_two]
    exact wp_localCp m c (j + 2) h
  · rw [show Nat.ble (j + 3) 32 = false from Bool.eq_false_iff.mpr fun e => h (Nat.ble_eq.mp e), show WP c (whenP false (localCp (F := F) c (j + 2))) Q = iprop(|={Set.univ}=> Q ⟨⟩) from rfl]
    unfold slotLo; rw [if_neg h, par_two]
    iintro H Hk
    imodintro; iapply Hk; iexact H

/-- Chunk `j` of the result. -/
theorem wp_compute (j : ℕ) (hj : j < 32) (n : ℕ) (ld : P F (Vec F S1x64x2048 .bf16)) (H : sProp 𝕄) (Y : CB F) (hY : recvOf m c j = Y)
    (hld : ∀ Q : Vec F S1x64x2048 .bf16 → sProp 𝕄, H ⊢ iprop((H -∗ Q (unsq hsq Y)) -∗ WP c ld Q)) {Q : PUnit.{1} → sProp 𝕄} :
    iprop(Ctx m K ∗ CS m c j ∗ H ∗ OW c (owe (todo n) c)) ⊢ iprop(((CS m c (j + 1) ∗ H ∗ OW c (owe (todo n) c)) -∗ Q ⟨⟩) -∗ WP c (compute c j ld) Q) := by
  have hr : (restOut c j : sProp 𝕄) = iprop(free c (outRow c j) ∗ restOut c (j + 1)) := bigSep_Ico_succ_bot hj _
  unfold CS compute
  rw [hr]
  iintro ⟨#HC, ⟨Hl, Hl', Ho, Ho', Hd, ⟨Hr, Hr'⟩, Hg⟩, HH, HO⟩ Hk
  iapply wp_then
  iapply (wp_localWait m K c j hj n) $$ [Hl HO]
  · isplitr; · iexact HC
    isplitl [Hl] <;> iassumption
  iintro ⟨Hl, Hv, Hx, HO⟩
  iapply wp_then
  iapply (wp_loadSlot (c := c) (b := locM) (r := rect2 (par j)) (fun _ => rfl) hsq fullShare (locv m c j)) $$ Hl
  iintro Hl
  iapply wp_then
  iapply (hld _) $$ HH
  iintro HH
  iapply wp_then
  iapply (wp_outFree m K c j n) $$ [Ho Hd HO]
  · isplitr; · iexact HC
    isplitl [Ho]; · iexact Ho
    isplitl [Hd] <;> iassumption
  unfold idleOut
  iintro ⟨⟨Ho, Hov⟩, Hd, HO⟩
  iapply wp_then
  iapply (wp_loadG m c) $$ Hg
  iintro Hg
  iapply wp_then
  iapply (wp_loadFree (c := c) (b := outM) (r := rect2 (par j)) (fun _ => rfl) hsq) $$ Ho
  iintro %w Ho
  iapply wp_then
  iapply (wp_storeSlot (c := c) (b := outM) (r := rect2 (par j)) (fun _ => rfl) hsq) $$ Ho
  iintro Ho
  iapply wp_then
  iapply (wp_outCp m c j) $$ [Ho Hr Hov]
  · isplitl [Ho]; · unfold outv; rw [hY]; iexact Ho
    isplitl [Hr] <;> iassumption
  iintro Ho
  iapply (wp_localNext m c j hj) $$ [Hl Hv Hx]
  · unfold idleLo idleX
    isplitl [Hl]; · iapply (held_free c (v2 locM (par j)) (locv m c j)) $$ Hl
    isplitl [Hv] <;> iassumption
  iintro Hl
  iapply Hk
  isplitl [Hl Hl' Ho Ho' Hd Hr' Hg]
  · isplitl [Hl']; · iexact Hl'
    isplitl [Hl]; · iexact Hl
    isplitl [Ho']; · iexact Ho'
    isplitl [Ho]; · iexact Ho
    isplitl [Hd]; · iexact Hd
    isplitl [Hr'] <;> iassumption
  isplitl [HH] <;> iassumption

end Cert.K

end
-- ==== Proof.Steps.lean ====
/-
# `Steps`: the body's steps

One rule per step of each loop: what the step finds and what it leaves, the result's chunks carried from step to step.
-/
module

public import proofs.«01_k».proof.Proof.Local

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Which links are still to be sent over -/

/-- A link is still to be sent over if its turn hasn't come. -/
theorem mem_todo {n : ℕ} {ℓ : Lk} : ℓ ∈ todo n ↔ n ≤ ord ℓ := by
  unfold todo; simp

/-- The links still to be sent over are above a level if those after a turn are. -/
theorem todo_lvl (n a : ℕ) (b : ℕ) (hb : a ≤ n) (h : ∀ ℓ : Lk, a ≤ ord ℓ → b < lvl ℓ) : ∀ ℓ ∈ todo n, b < lvl ℓ :=
  fun ℓ hℓ => h ℓ (hb.trans (mem_todo.mp hℓ))
/-- After the first sends, links are above level 2, -/
theorem after8 : ∀ ℓ : Lk, 8 ≤ ord ℓ → 2 < lvl ℓ := by decide
/-- after the forwards above level 3, -/
theorem after24 : ∀ ℓ : Lk, 24 ≤ ord ℓ → 3 < lvl ℓ := by decide
/-- and after the relays above any. -/
theorem after32 : ∀ ℓ : Lk, 32 ≤ ord ℓ → 4 < lvl ℓ := by decide

/-! ## Which chunk of its group the result's chunk is -/

/-- The first eight chunks come along `y`, -/
theorem recvOf_y (k : Fin 8) : recvOf m c k.val = ly m k c := by
  unfold recvOf; rw [if_pos k.isLt, show grp k.val = k by revert k; decide]
/-- the next sixteen in turn along `x` -/
theorem recvOf_x (k : Fin 8) : recvOf m c (8 + 2 * k.val) = lx m k c := by
  have := k.isLt
  unfold recvOf; rw [if_neg (by omega), if_pos (by omega), if_pos (by omega), show grp (8 + 2 * k.val) = k by revert k; decide]
/-- and along `z`; -/
theorem recvOf_z (k : Fin 8) : recvOf m c (9 + 2 * k.val) = lz m k c := by
  have := k.isLt
  unfold recvOf; rw [if_neg (by omega), if_pos (by omega), if_neg (by omega), show grp (9 + 2 * k.val) = k by revert k; decide]
/-- of the last eight, four are relayed along `x` -/
theorem recvOf_xd (k : Fin 4) : recvOf m c (24 + k.val) = lz m (lo k) (devX c) := by
  have := k.isLt
  unfold recvOf; rw [if_neg (by omega), if_neg (by omega), if_pos (by omega), show grp (24 + k.val) = lo k by revert k; decide]
/-- and four along `z`. -/
theorem recvOf_zd (k : Fin 4) : recvOf m c (28 + k.val) = lx m (hi k) (devZ c) := by
  have := k.isLt
  unfold recvOf; rw [if_neg (by omega), if_neg (by omega), if_neg (by omega), show grp (28 + k.val) = hi k by revert k; decide]

/-! ## The first sends -/

def RA (k : ℕ) : sProp 𝕄 := iprop(slotSt m c k ∗ slotSt m c (k + 1) ∗ OW c (owe (todo k) c))
def BA (k : Fin 8) : sProp 𝕄 := iprop(free c (v8 sndM k) ∗ toSend c (.y k))

/-- The next staging copy into the same slot, if there is one. -/
theorem wp_stageNext (k : Fin 8) {Q : PUnit.{1} → sProp 𝕄} :
    idleSt m c (par k) ⊢ iprop((slotSt m c (k.val + 2) -∗ Q ⟨⟩) -∗ WP c (if h : k.val + 2 < 8 then stageCp c ⟨k.val + 2, h⟩ else pure ⟨⟩) Q) := by
  by_cases h : k.val + 2 < 8
  · rw [dif_pos h, ← par_two]
    exact wp_stageCp m c ⟨k.val + 2, h⟩
  · rw [dif_neg h, show WP c (pure ⟨⟩) Q = iprop(|={Set.univ}=> Q ⟨⟩) from rfl]
    unfold slotSt; rw [dif_neg h, par_two]
    iintro H Hk
    imodintro; iapply Hk; iexact H

/-- A first send: staged, cast, stored, sent, and the next staging begun. -/
theorem wp_stepA (k : Fin 8) (Q : PUnit.{1} → sProp 𝕄) :
    iprop(Ctx m K ∗ RA m c k.val ∗ BA c k) ⊢ iprop((RA m c (k.val + 1) ∗ sent c (.y k) -∗ Q ⟨⟩) -∗ WP c (stepA c k) Q) := by
  have hsend (Q : PUnit.{1} → sProp 𝕄) : iprop(Ctx m K ∗ toSend c (.y k) ∗ held c (v8 sndM k) fullShare (sy m k c) ∗ OW c (owe (todo k.val) c))
      ⊢ iprop(((sent c (.y k) ∗ OW c (owe (todo (k.val + 1)) c)) -∗ Q ⟨⟩)
        -∗ WP c (sendTo (devY c) (v8 sndM k) (v8 ryM k) (weSnd k) (weY k) (s8 cc0_scratch12 k) (s8 cc0_scratch13 k)) Q) := wp_send m K c (.y k)
  unfold RA BA stepA
  iintro ⟨#HC, ⟨Hs, Hs', HO⟩, Hf, Ht⟩ Hk
  iapply wp_then
  iapply (wp_stageWait m K c k k.val) $$ [Hs HO]
  · isplitr; · iexact HC
    isplitl [Hs] <;> iassumption
  iintro ⟨Hs, Hv, Hx, HO⟩
  iapply wp_then
  iapply (wp_loadSlot (c := c) (b := stgM) (r := rect2 (par k)) (fun _ => rfl) hsq fullShare (stv m c k)) $$ Hs
  iintro Hs
  iapply wp_then
  iapply (wp_loadFree (c := c) (b := sndM) (r := rect8 k) (fun _ => rfl) hsq) $$ Hf
  iintro %w Hf
  iapply wp_then
  iapply (wp_storeSlot (c := c) (b := sndM) (r := rect8 k) (fun _ => rfl) hsq) $$ Hf
  iintro Hf
  iapply wp_then
  iapply (hsend _) $$ [Ht Hf HO]
  · isplitr; · iexact HC
    isplitl [Ht]; · iexact Ht
    isplitl [Hf]; · iexact Hf
    iexact HO
  iintro ⟨Hc, HO⟩
  iapply (wp_stageNext m c k) $$ [Hs Hv Hx]
  · unfold idleSt idleX
    isplitl [Hs]; · iapply (held_free c (v2 stgM (par k)) (stv m c k)) $$ Hs
    isplitl [Hv] <;> iassumption
  iintro Hs
  iapply Hk
  isplitl [Hs Hs' HO]
  · isplitl [Hs']; · iexact Hs'
    isplitl [Hs] <;> iassumption
  iexact Hc

/-! ## The forwards -/

def RB (k : ℕ) : sProp 𝕄 := iprop(CS m c k ∗ OW c (owe (todo (8 + 2 * k)) c))
def BB (k : Fin 8) : sProp 𝕄 := iprop(toRecv c (.y k) ∗ toSend c (.x k) ∗ toSend c (.z k))
def AB (k : Fin 8) : sProp 𝕄 :=
  iprop(semVal (recvCell (.y k) c) 0 ∗ sent c (.x k) ∗ sent c (.z k) ∗ held c (v8 ryM k) fullShare.right.right (ly m k c))

/-- A load of a slot of eight, -/
theorem wp_load8 (b : Memref sig .tc .vmem S8x64x2048 .bf16) (k : Fin 8) (q : PosShare TreeShare) (X : CB F) (Q : Vec F S1x64x2048 .bf16 → sProp 𝕄) :
    held c (v8 b k) q X ⊢ iprop((held c (v8 b k) q X -∗ Q (unsq hsq X)) -∗ WP c (load8 b k) Q) :=
  wp_loadSlot (c := c) (b := b) (r := rect8 k) (fun _ => rfl) hsq q X
/-- and of four. -/
theorem wp_load4 (b : Memref sig .tc .vmem S4x64x2048 .bf16) (k : Fin 4) (q : PosShare TreeShare) (X : CB F) (Q : Vec F S1x64x2048 .bf16 → sProp 𝕄) :
    held c (v4 b k) q X ⊢ iprop((held c (v4 b k) q X -∗ Q (unsq hsq X)) -∗ WP c (load4 b k) Q) :=
  wp_loadSlot (c := c) (b := b) (r := rect4 k) (fun _ => rfl) hsq q X

/-- A chunk that came along `y`: forwarded along `x` and `z`, and summed. -/
theorem wp_stepB (k : Fin 8) (Q : PUnit.{1} → sProp 𝕄) :
    iprop(Ctx m K ∗ RB m c k.val ∗ BB c k) ⊢ iprop((RB m c (k.val + 1) ∗ AB m c k -∗ Q ⟨⟩) -∗ WP c (stepB c k) Q) := by
  have hk := k.isLt
  have hrecv (Q : PUnit.{1} → sProp 𝕄) : iprop(Ctx m K ∗ toRecv c (.y k) ∗ OW c (owe (todo (8 + 2 * k.val)) c))
      ⊢ iprop(((held c (v8 ryM k) fullShare (ly m k c) ∗ semVal (recvCell (.y k) c) 0 ∗ OW c (owe (todo (8 + 2 * k.val)) c)) -∗ Q ⟨⟩)
        -∗ WP c (waitOn (s8 cc0_scratch13 k) (v8 sndM k) (v8 ryM k) (weSnd k) (weY k)) Q) :=
    wp_recv m K c (.y k) (8 + 2 * k.val) (todo_lvl _ 8 2 (Nat.le_add_right _ _) after8)
  have hsx (Q : PUnit.{1} → sProp 𝕄) : iprop(Ctx m K ∗ toSend c (.x k) ∗ held c (v8 ryM k) fullShare.left (ly m k c) ∗ OW c (owe (todo (8 + 2 * k.val)) c))
      ⊢ iprop(((sent c (.x k) ∗ OW c (owe (todo (8 + 2 * k.val + 1)) c)) -∗ Q ⟨⟩)
        -∗ WP c (sendTo (devX c) (v8 ryM k) (v8 rxM k) (weY k) (weX k) (s8 cc0_scratch14 k) (s8 cc0_scratch15 k)) Q) := wp_send m K c (.x k)
  have hsz (Q : PUnit.{1} → sProp 𝕄) : iprop(Ctx m K ∗ toSend c (.z k) ∗ held c (v8 ryM k) fullShare.right.left (ly m k c) ∗ OW c (owe (todo (9 + 2 * k.val)) c))
      ⊢ iprop(((sent c (.z k) ∗ OW c (owe (todo (9 + 2 * k.val + 1)) c)) -∗ Q ⟨⟩)
        -∗ WP c (sendTo (devZ c) (v8 ryM k) (v8 rzM k) (weY k) (weZ k) (s8 cc0_scratch16 k) (s8 cc0_scratch17 k)) Q) := wp_send m K c (.z k)
  rw [show 8 + 2 * k.val + 1 = 9 + 2 * k.val by omega] at hsx
  rw [show 9 + 2 * k.val + 1 = 8 + 2 * (k.val + 1) by omega] at hsz
  have h1 := (held_halves c (v8 ryM k) fullShare (ly m k c)).1
  have h2 := (held_halves c (v8 ryM k) fullShare.right (ly m k c)).1
  unfold RB BB AB stepB
  iintro ⟨#HC, ⟨HS, HO⟩, Hr, Hx, Hz⟩ Hk
  iapply wp_then
  iapply (hrecv _) $$ [Hr HO]
  · isplitr; · iexact HC
    isplitl [Hr] <;> iassumption
  iintro ⟨Hy, Hv, HO⟩
  ihave Hy := h1 $$ Hy
  icases Hy with ⟨Hyl, Hyr⟩
  ihave Hyr := h2 $$ Hyr
  icases Hyr with ⟨Hyrl, Hyrr⟩
  iapply wp_then
  iapply (hsx _) $$ [Hx Hyl HO]
  · isplitr; · iexact HC
    isplitl [Hx]; · iexact Hx
    isplitl [Hyl] <;> iassumption
  iintro ⟨Hx, HO⟩
  iapply wp_then
  iapply (hsz _) $$ [Hz Hyrl HO]
  · isplitr; · iexact HC
    isplitl [Hz]; · iexact Hz
    isplitl [Hyrl] <;> iassumption
  iintro ⟨Hz, HO⟩
  iapply (wp_compute m K c k.val (by omega) (8 + 2 * (k.val + 1)) (load8 ryM k) (held c (v8 ryM k) fullShare.right.right (ly m k c)) (ly m k c)
    (recvOf_y m c k) (wp_load8 c ryM k fullShare.right.right (ly m k c))) $$ [HS Hyrr HO]
  · isplitr; · iexact HC
    isplitl [HS]; · iexact HS
    isplitl [Hyrr] <;> iassumption
  iintro ⟨HS, Hy, HO⟩
  iapply Hk
  isplitl [HS HO]; · isplitl [HS] <;> iassumption
  isplitl [Hv]; · iexact Hv
  isplitl [Hx]; · iexact Hx
  isplitl [Hz] <;> iassumption

/-! ## The relays -/

/-- The relay a forward's step sends: the lower half of what comes along `z`, the upper half of what comes along `x`. -/
def rl (k : Fin 8) : Lk := if h : k.val < 4 then .xd ⟨k.val, h⟩ else .zd ⟨k.val - 4, by omega⟩
/-- The half of the step's other slot that is not lent to the relay. -/
def keep (k : Fin 8) : sProp 𝕄 := if k.val < 4 then held c (v8 rxM k) fullShare.left (lx m k c) else held c (v8 rzM k) fullShare.left (lz m k c)

def RC (k : ℕ) : sProp 𝕄 := iprop(CS m c (8 + 2 * k) ∗ OW c (owe (todo (24 + k)) c))
def BC (k : Fin 8) : sProp 𝕄 := iprop(toRecv c (.x k) ∗ toRecv c (.z k) ∗ toSend c (rl k))
def AC (k : Fin 8) : sProp 𝕄 :=
  iprop(semVal (recvCell (.x k) c) 0 ∗ semVal (recvCell (.z k) c) 0 ∗ sent c (rl k) ∗ keep m c k
    ∗ held c (v8 rxM k) fullShare.right (lx m k c) ∗ held c (v8 rzM k) fullShare.right (lz m k c))

/-- Wait for a chunk along `x`, -/
theorem wp_recvX (k : Fin 8) (n : ℕ) (hn : 24 ≤ n) (Q : PUnit.{1} → sProp 𝕄) : iprop(Ctx m K ∗ toRecv c (.x k) ∗ OW c (owe (todo n) c))
    ⊢ iprop(((held c (v8 rxM k) fullShare (lx m k c) ∗ semVal (recvCell (.x k) c) 0 ∗ OW c (owe (todo n) c)) -∗ Q ⟨⟩)
      -∗ WP c (waitOn (s8 cc0_scratch15 k) (v8 ryM k) (v8 rxM k) (weY k) (weX k)) Q) := wp_recv m K c (.x k) n (todo_lvl _ 24 3 hn after24)
/-- and along `z`. -/
theorem wp_recvZ (k : Fin 8) (n : ℕ) (hn : 24 ≤ n) (Q : PUnit.{1} → sProp 𝕄) : iprop(Ctx m K ∗ toRecv c (.z k) ∗ OW c (owe (todo n) c))
    ⊢ iprop(((held c (v8 rzM k) fullShare (lz m k c) ∗ semVal (recvCell (.z k) c) 0 ∗ OW c (owe (todo n) c)) -∗ Q ⟨⟩)
      -∗ WP c (waitOn (s8 cc0_scratch17 k) (v8 ryM k) (v8 rzM k) (weY k) (weZ k)) Q) := wp_recv m K c (.z k) n (todo_lvl _ 24 3 hn after24)

/-- The relay along `z` of a step, if it has one: the half lent, or kept. -/
theorem wp_relayZ (k : Fin 8) (Q : PUnit.{1} → sProp 𝕄) :
    iprop(Ctx m K ∗ toSend c (rl k) ∗ held c (v8 rxM k) fullShare.left (lx m k c) ∗ OW c (owe (todo (24 + k.val)) c))
      ⊢ iprop(((if k.val < 4 then iprop(toSend c (rl k) ∗ keep m c k ∗ OW c (owe (todo (24 + k.val)) c)) else iprop(sent c (rl k) ∗ OW c (owe (todo (24 + (k.val + 1))) c))) -∗ Q ⟨⟩)
          -∗ WP c (if h : 4 ≤ k.val then
              sendTo (devZ c) (v8 rxM k) (v4 rzdM ⟨k.val - 4, by omega⟩) (weX k) (weZd ⟨k.val - 4, by omega⟩) (s4 cc0_scratch20 ⟨k.val - 4, by omega⟩) (s4 cc0_scratch21 ⟨k.val - 4, by omega⟩)
            else pure ⟨⟩) Q) := by
  by_cases h : k.val < 4
  · rw [if_pos h, dif_neg (by omega), show WP c (pure ⟨⟩) Q = iprop(|={Set.univ}=> Q ⟨⟩) from rfl]
    unfold keep; rw [if_pos h]
    iintro ⟨-, Ht, Hx, HO⟩ Hk
    imodintro; iapply Hk
    isplitl [Ht]; · iexact Ht
    isplitl [Hx] <;> iassumption
  · obtain ⟨i, rfl⟩ : ∃ i : Fin 4, k = hi i := ⟨⟨k.val - 4, by omega⟩, Fin.ext (by show k.val = k.val - 4 + 4; omega)⟩
    rw [if_neg h, dif_pos (by show 4 ≤ i.val + 4; omega), show rl (hi i) = .zd i from dif_neg h]
    have hs := wp_send m K c (.zd i) (hs := weX (hi i)) (hd := weZd i) (Q := Q)
    rw [show ord (.zd i) = 24 + (hi i).val by show 28 + i.val = 24 + (i.val + 4); omega] at hs
    exact hs

/-- The relay along `x` of a step, if it has one. -/
theorem wp_relayX (k : Fin 8) (Q : PUnit.{1} → sProp 𝕄) :
    iprop(Ctx m K ∗ (if k.val < 4 then iprop(toSend c (rl k) ∗ keep m c k ∗ OW c (owe (todo (24 + k.val)) c)) else iprop(sent c (rl k) ∗ OW c (owe (todo (24 + (k.val + 1))) c)))
        ∗ held c (v8 rzM k) fullShare.left (lz m k c))
      ⊢ iprop((sent c (rl k) ∗ keep m c k ∗ OW c (owe (todo (24 + (k.val + 1))) c) -∗ Q ⟨⟩)
          -∗ WP c (if h : k.val < 4 then
              sendTo (devX c) (v8 rzM k) (v4 rxdM ⟨k.val, h⟩) (weZ k) (weXd ⟨k.val, h⟩) (s4 cc0_scratch18 ⟨k.val, h⟩) (s4 cc0_scratch19 ⟨k.val, h⟩)
            else pure ⟨⟩) Q) := by
  by_cases h : k.val < 4
  · obtain ⟨i, rfl⟩ : ∃ i : Fin 4, k = lo i := ⟨⟨k.val, h⟩, rfl⟩
    rw [if_pos h, dif_pos h, show rl (lo i) = .xd i from dif_pos h]
    have hs : iprop(Ctx m K ∗ toSend c (.xd i) ∗ held c (v8 rzM (lo i)) fullShare.left (lz m (lo i) c) ∗ OW c (owe (todo (24 + i.val)) c))
      ⊢ iprop(((sent c (.xd i) ∗ OW c (owe (todo (24 + i.val + 1)) c)) -∗ Q ⟨⟩)
        -∗ WP c (sendTo (devX c) (v8 rzM (lo i)) (v4 rxdM i) (weZ (lo i)) (weXd i) (s4 cc0_scratch18 i) (s4 cc0_scratch19 i)) Q) := wp_send m K c (.xd i)
    iintro ⟨#HC, ⟨Ht, Hkp, HO⟩, Hz⟩ Hk
    iapply hs $$ [Ht Hz HO]
    · isplitr; · iexact HC
      isplitl [Ht]; · iexact Ht
      isplitl [Hz] <;> iassumption
    iintro ⟨Hs, HO⟩
    iapply Hk
    isplitl [Hs]; · iexact Hs
    isplitl [Hkp] <;> iassumption
  · rw [if_neg h, dif_neg h, show WP c (pure ⟨⟩) Q = iprop(|={Set.univ}=> Q ⟨⟩) from rfl]
    unfold keep; rw [if_neg h]
    iintro ⟨-, ⟨Ht, HO⟩, Hx⟩ Hk
    imodintro; iapply Hk
    isplitl [Ht]; · iexact Ht
    isplitl [Hx] <;> iassumption

/-- The links owed between a step's two relays. -/
def midO (k : Fin 8) : ℕ := if k.val < 4 then 24 + k.val else 24 + (k.val + 1)
def midR (k : Fin 8) : sProp 𝕄 := if k.val < 4 then iprop(toSend c (rl k) ∗ keep m c k) else sent c (rl k)
/-- What a relaying step has between its two halves. -/
theorem mid_eq (k : Fin 8) :
    (if k.val < 4 then iprop(toSend c (rl k) ∗ keep m c k ∗ OW c (owe (todo (24 + k.val)) c)) else iprop(sent c (rl k) ∗ OW c (owe (todo (24 + (k.val + 1))) c)) : sProp 𝕄)
      ⊣⊢ iprop(midR m c k ∗ OW c (owe (todo (midO k)) c)) := by
  unfold midR midO
  by_cases h : k.val < 4
  · simp only [if_pos h]
    constructor
    · iintro ⟨H1, H2, H3⟩
      isplitr [H3]; · isplitl [H1] <;> iassumption
      iexact H3
    · iintro ⟨⟨H1, H2⟩, H3⟩
      isplitl [H1]; · iexact H1
      isplitl [H2] <;> iassumption
  · simp only [if_neg h]
    exact ⟨Entails.refl _, Entails.refl _⟩

/-- The first half of a relaying step: the chunk along `x`. -/
theorem wp_stepC1 (k : Fin 8) (Q : PUnit.{1} → sProp 𝕄) :
    iprop(Ctx m K ∗ RC m c k.val ∗ toRecv c (.x k) ∗ toSend c (rl k))
      ⊢ iprop((CS m c (9 + 2 * k.val) ∗ OW c (owe (todo (midO k)) c) ∗ midR m c k ∗ semVal (recvCell (.x k) c) 0 ∗ held c (v8 rxM k) fullShare.right (lx m k c) -∗ Q ⟨⟩)
        -∗ WP c (stepC1 c k) Q) := by
  have hk := k.isLt
  have h1 := (held_halves c (v8 rxM k) fullShare (lx m k c)).1
  have h2 := (mid_eq m c k).1
  unfold RC stepC1
  iintro ⟨#HC, ⟨HS, HO⟩, Hr, Ht⟩ Hk
  iapply wp_then
  iapply (wp_recvX m K c k (24 + k.val) (Nat.le_add_right _ _)) $$ [Hr HO]
  · isplitr; · iexact HC
    isplitl [Hr] <;> iassumption
  iintro ⟨Hx, Hv, HO⟩
  ihave Hx := h1 $$ Hx
  icases Hx with ⟨Hxl, Hxr⟩
  iapply wp_then
  iapply (wp_relayZ m K c k) $$ [Ht Hxl HO]
  · isplitr; · iexact HC
    isplitl [Ht]; · iexact Ht
    isplitl [Hxl] <;> iassumption
  iintro H
  ihave H := h2 $$ H
  icases H with ⟨Hm, HO⟩
  iapply (wp_compute m K c (8 + 2 * k.val) (by omega) (midO k) (load8 rxM k) (held c (v8 rxM k) fullShare.right (lx m k c)) (lx m k c)
    (recvOf_x m c k) (wp_load8 c rxM k fullShare.right (lx m k c))) $$ [HS Hxr HO]
  · isplitr; · iexact HC
    isplitl [HS]; · iexact HS
    isplitl [Hxr] <;> iassumption
  rw [show 8 + 2 * k.val + 1 = 9 + 2 * k.val by omega]
  iintro ⟨HS, Hx, HO⟩
  iapply Hk
  isplitl [HS]; · iexact HS
  isplitl [HO]; · iexact HO
  isplitl [Hm]; · iexact Hm
  isplitl [Hv] <;> iassumption

/-- In between, the forwards are all sent. -/
theorem midO_le (k : Fin 8) : 24 ≤ midO k := by unfold midO; split <;> omega

/-- The second half: the chunk along `z`. -/
theorem wp_stepC2 (k : Fin 8) (Q : PUnit.{1} → sProp 𝕄) :
    iprop(Ctx m K ∗ CS m c (9 + 2 * k.val) ∗ OW c (owe (todo (midO k)) c) ∗ midR m c k ∗ toRecv c (.z k))
      ⊢ iprop((RC m c (k.val + 1) ∗ semVal (recvCell (.z k) c) 0 ∗ sent c (rl k) ∗ keep m c k ∗ held c (v8 rzM k) fullShare.right (lz m k c) -∗ Q ⟨⟩)
        -∗ WP c (stepC2 c k) Q) := by
  have hk := k.isLt
  have h1 := (held_halves c (v8 rzM k) fullShare (lz m k c)).1
  have h2 := (mid_eq m c k).2
  unfold RC stepC2
  iintro ⟨#HC, HS, HO, Hm, Hr⟩ Hk
  iapply wp_then
  iapply (wp_recvZ m K c k (midO k) (midO_le k)) $$ [Hr HO]
  · isplitr; · iexact HC
    isplitl [Hr] <;> iassumption
  iintro ⟨Hx, Hv, HO⟩
  ihave Hx := h1 $$ Hx
  icases Hx with ⟨Hxl, Hxr⟩
  ihave H := h2 $$ [Hm HO]
  · isplitl [Hm] <;> iassumption
  iapply wp_then
  iapply (wp_relayX m K c k) $$ [H Hxl]
  · isplitr; · iexact HC
    isplitl [H] <;> iassumption
  iintro ⟨Hs, Hkp, HO⟩
  iapply (wp_compute m K c (9 + 2 * k.val) (by omega) (24 + (k.val + 1)) (load8 rzM k) (held c (v8 rzM k) fullShare.right (lz m k c)) (lz m k c)
    (recvOf_z m c k) (wp_load8 c rzM k fullShare.right (lz m k c))) $$ [HS Hxr HO]
  · isplitr; · iexact HC
    isplitl [HS]; · iexact HS
    isplitl [Hxr] <;> iassumption
  rw [show 9 + 2 * k.val + 1 = 8 + 2 * (k.val + 1) by omega]
  iintro ⟨HS, Hx, HO⟩
  iapply Hk
  isplitl [HS HO]; · isplitl [HS] <;> iassumption
  isplitl [Hv]; · iexact Hv
  isplitl [Hs]; · iexact Hs
  isplitl [Hkp] <;> iassumption

/-- A relaying step. -/
theorem wp_stepC (k : Fin 8) (Q : PUnit.{1} → sProp 𝕄) :
    iprop(Ctx m K ∗ RC m c k.val ∗ BC c k) ⊢ iprop((RC m c (k.val + 1) ∗ AC m c k -∗ Q ⟨⟩) -∗ WP c (stepC c k) Q) := by
  unfold BC AC stepC
  iintro ⟨#HC, HR, Hx, Hz, Ht⟩ Hk
  iapply wp_then
  iapply (wp_stepC1 m K c k) $$ [HR Hx Ht]
  · isplitr; · iexact HC
    isplitl [HR]; · iexact HR
    isplitl [Hx] <;> iassumption
  iintro ⟨HS, HO, Hm, Hv, Hx⟩
  iapply (wp_stepC2 m K c k) $$ [HS HO Hm Hz]
  · isplitr; · iexact HC
    isplitl [HS]; · iexact HS
    isplitl [HO]; · iexact HO
    isplitl [Hm] <;> iassumption
  iintro ⟨HR, Hv', Hs, Hkp, Hz⟩
  iapply Hk
  isplitl [HR]; · iexact HR
  isplitl [Hv]; · iexact Hv
  isplitl [Hv']; · iexact Hv'
  isplitl [Hs]; · iexact Hs
  isplitl [Hkp]; · iexact Hkp
  isplitl [Hx] <;> iassumption

/-! ## The far group -/

def RD (a k : ℕ) : sProp 𝕄 := iprop(CS m c (a + k) ∗ OW c (owe (todo 32) c))
def AD (k : Fin 4) : sProp 𝕄 := iprop(semVal (recvCell (.xd k) c) 0 ∗ held c (v4 rxdM k) fullShare (lz m (lo k) (devX c)))
def AE (k : Fin 4) : sProp 𝕄 := iprop(semVal (recvCell (.zd k) c) 0 ∗ held c (v4 rzdM k) fullShare (lx m (hi k) (devZ c)))

/-- A chunk of the far group relayed along `x`, summed; -/
theorem wp_stepD (k : Fin 4) (Q : PUnit.{1} → sProp 𝕄) :
    iprop(Ctx m K ∗ RD m c 24 k.val ∗ toRecv c (.xd k)) ⊢ iprop((RD m c 24 (k.val + 1) ∗ AD m c k -∗ Q ⟨⟩) -∗ WP c (stepD c k) Q) := by
  have hk := k.isLt
  have hrecv (Q : PUnit.{1} → sProp 𝕄) : iprop(Ctx m K ∗ toRecv c (.xd k) ∗ OW c (owe (todo 32) c))
      ⊢ iprop(((held c (v4 rxdM k) fullShare (lz m (lo k) (devX c)) ∗ semVal (recvCell (.xd k) c) 0 ∗ OW c (owe (todo 32) c)) -∗ Q ⟨⟩)
        -∗ WP c (waitOn (s4 cc0_scratch19 k) (v8 rzM (lo k)) (v4 rxdM k) (weZ (lo k)) (weXd k)) Q) :=
    wp_recv m K c (.xd k) 32 (todo_lvl _ 32 4 le_rfl after32)
  unfold RD AD stepD
  iintro ⟨#HC, ⟨HS, HO⟩, Hr⟩ Hk
  iapply wp_then
  iapply (hrecv _) $$ [Hr HO]
  · isplitr; · iexact HC
    isplitl [Hr] <;> iassumption
  iintro ⟨Hx, Hv, HO⟩
  iapply (wp_compute m K c (24 + k.val) (by omega) 32 (load4 rxdM k) (held c (v4 rxdM k) fullShare (lz m (lo k) (devX c))) (lz m (lo k) (devX c))
    (recvOf_xd m c k) (wp_load4 c rxdM k fullShare (lz m (lo k) (devX c)))) $$ [HS Hx HO]
  · isplitr; · iexact HC
    isplitl [HS]; · iexact HS
    isplitl [Hx] <;> iassumption
  iintro ⟨HS, Hx, HO⟩
  iapply Hk
  isplitl [HS HO]; · isplitl [HS] <;> iassumption
  isplitl [Hv] <;> iassumption

/-- and one relayed along `z`. -/
theorem wp_stepE (k : Fin 4) (Q : PUnit.{1} → sProp 𝕄) :
    iprop(Ctx m K ∗ RD m c 28 k.val ∗ toRecv c (.zd k)) ⊢ iprop((RD m c 28 (k.val + 1) ∗ AE m c k -∗ Q ⟨⟩) -∗ WP c (stepE c k) Q) := by
  have hk := k.isLt
  have hrecv (Q : PUnit.{1} → sProp 𝕄) : iprop(Ctx m K ∗ toRecv c (.zd k) ∗ OW c (owe (todo 32) c))
      ⊢ iprop(((held c (v4 rzdM k) fullShare (lx m (hi k) (devZ c)) ∗ semVal (recvCell (.zd k) c) 0 ∗ OW c (owe (todo 32) c)) -∗ Q ⟨⟩)
        -∗ WP c (waitOn (s4 cc0_scratch21 k) (v8 rxM (hi k)) (v4 rzdM k) (weX (hi k)) (weZd k)) Q) :=
    wp_recv m K c (.zd k) 32 (todo_lvl _ 32 4 le_rfl after32)
  unfold RD AE stepE
  iintro ⟨#HC, ⟨HS, HO⟩, Hr⟩ Hk
  iapply wp_then
  iapply (hrecv _) $$ [Hr HO]
  · isplitr; · iexact HC
    isplitl [Hr] <;> iassumption
  iintro ⟨Hx, Hv, HO⟩
  iapply (wp_compute m K c (28 + k.val) (by omega) 32 (load4 rzdM k) (held c (v4 rzdM k) fullShare (lx m (hi k) (devZ c))) (lx m (hi k) (devZ c))
    (recvOf_zd m c k) (wp_load4 c rzdM k fullShare (lx m (hi k) (devZ c)))) $$ [HS Hx HO]
  · isplitr; · iexact HC
    isplitl [HS]; · iexact HS
    isplitl [Hx] <;> iassumption
  iintro ⟨HS, Hx, HO⟩
  iapply Hk
  isplitl [HS HO]; · isplitl [HS] <;> iassumption
  isplitl [Hv] <;> iassumption

/-! ## The waits for what was sent -/

def toWait (ℓ : Lk) : sProp 𝕄 := iprop(sent c ℓ ∗ atPos ER (sendCell ℓ c) 0 ∅ 0)
def back (ℓ : Lk) : sProp 𝕄 := iprop(held c (src ℓ) (shr ℓ) (sentv m ℓ c) ∗ semVal (sendCell ℓ c) 0)

/-- Wait for what was sent over a link: its source comes back. -/
theorem wp_back (ℓ : Lk) {hs : (dst ℓ).view.WordExact} {hd : (src ℓ).view.WordExact} {Q : PUnit.{1} → sProp 𝕄} :
    iprop(Ctx m K ∗ OW c (owe (todo 32) c) ∗ toWait c ℓ)
      ⊢ iprop((OW c (owe (todo 32) c) ∗ back m c ℓ -∗ Q ⟨⟩) -∗ WP c (waitOn (ss ℓ) (dst ℓ) (src ℓ) hs hd) Q) := by
  unfold toWait back
  iintro ⟨#HC, HO, Hs, Ha⟩ Hk
  iapply (wp_sentWait m K c ℓ) $$ [Hs Ha HO]
  · isplitr; · iexact HC
    isplitl [Hs]; · iexact Hs
    isplitl [Ha] <;> iassumption
  iintro ⟨Hh, Hv, HO⟩
  iapply Hk
  isplitl [HO]; · iexact HO
  isplitl [Hh] <;> iassumption

/-- The waits for a first send and its forwards, -/
theorem wp_stepW (k : Fin 8) (Q : PUnit.{1} → sProp 𝕄) :
    iprop(Ctx m K ∗ OW c (owe (todo 32) c) ∗ toWait c (.y k) ∗ toWait c (.x k) ∗ toWait c (.z k))
      ⊢ iprop((OW c (owe (todo 32) c) ∗ back m c (.y k) ∗ back m c (.x k) ∗ back m c (.z k) -∗ Q ⟨⟩) -∗ WP c (stepW c k) Q) := by
  have h1 (Q : PUnit.{1} → sProp 𝕄) : iprop(Ctx m K ∗ OW c (owe (todo 32) c) ∗ toWait c (.y k))
      ⊢ iprop((OW c (owe (todo 32) c) ∗ back m c (.y k) -∗ Q ⟨⟩) -∗ WP c (waitOn (s8 cc0_scratch12 k) (v8 ryM k) (v8 sndM k) (weY k) (weSnd k)) Q) := wp_back m K c (.y k)
  have h2 (Q : PUnit.{1} → sProp 𝕄) : iprop(Ctx m K ∗ OW c (owe (todo 32) c) ∗ toWait c (.x k))
      ⊢ iprop((OW c (owe (todo 32) c) ∗ back m c (.x k) -∗ Q ⟨⟩) -∗ WP c (waitOn (s8 cc0_scratch14 k) (v8 rxM k) (v8 ryM k) (weX k) (weY k)) Q) := wp_back m K c (.x k)
  have h3 (Q : PUnit.{1} → sProp 𝕄) : iprop(Ctx m K ∗ OW c (owe (todo 32) c) ∗ toWait c (.z k))
      ⊢ iprop((OW c (owe (todo 32) c) ∗ back m c (.z k) -∗ Q ⟨⟩) -∗ WP c (waitOn (s8 cc0_scratch16 k) (v8 rzM k) (v8 ryM k) (weZ k) (weY k)) Q) := wp_back m K c (.z k)
  unfold stepW
  iintro ⟨#HC, HO, Hy, Hx, Hz⟩ Hk
  iapply wp_then
  iapply (h1 _) $$ [HO Hy]
  · isplitr; · iexact HC
    isplitl [HO] <;> iassumption
  iintro ⟨HO, Hy⟩
  iapply wp_then
  iapply (h2 _) $$ [HO Hx]
  · isplitr; · iexact HC
    isplitl [HO] <;> iassumption
  iintro ⟨HO, Hx⟩
  iapply (h3 _) $$ [HO Hz]
  · isplitr; · iexact HC
    isplitl [HO] <;> iassumption
  iintro ⟨HO, Hz⟩
  iapply Hk
  isplitl [HO]; · iexact HO
  isplitl [Hy]; · iexact Hy
  isplitl [Hx] <;> iassumption

/-- and for the relays. -/
theorem wp_stepV (k : Fin 4) (Q : PUnit.{1} → sProp 𝕄) :
    iprop(Ctx m K ∗ OW c (owe (todo 32) c) ∗ toWait c (.xd k) ∗ toWait c (.zd k))
      ⊢ iprop((OW c (owe (todo 32) c) ∗ back m c (.xd k) ∗ back m c (.zd k) -∗ Q ⟨⟩) -∗ WP c (stepV c k) Q) := by
  have h1 (Q : PUnit.{1} → sProp 𝕄) : iprop(Ctx m K ∗ OW c (owe (todo 32) c) ∗ toWait c (.xd k))
      ⊢ iprop((OW c (owe (todo 32) c) ∗ back m c (.xd k) -∗ Q ⟨⟩) -∗ WP c (waitOn (s4 cc0_scratch18 k) (v4 rxdM k) (v8 rzM (lo k)) (weXd k) (weZ (lo k))) Q) := wp_back m K c (.xd k)
  have h2 (Q : PUnit.{1} → sProp 𝕄) : iprop(Ctx m K ∗ OW c (owe (todo 32) c) ∗ toWait c (.zd k))
      ⊢ iprop((OW c (owe (todo 32) c) ∗ back m c (.zd k) -∗ Q ⟨⟩) -∗ WP c (waitOn (s4 cc0_scratch20 k) (v4 rzdM k) (v8 rxM (hi k)) (weZd k) (weX (hi k))) Q) := wp_back m K c (.zd k)
  unfold stepV
  iintro ⟨#HC, HO, Hx, Hz⟩ Hk
  iapply wp_then
  iapply (h1 _) $$ [HO Hx]
  · isplitr; · iexact HC
    isplitl [HO] <;> iassumption
  iintro ⟨HO, Hx⟩
  iapply (h2 _) $$ [HO Hz]
  · isplitr; · iexact HC
    isplitl [HO] <;> iassumption
  iintro ⟨HO, Hz⟩
  iapply Hk
  isplitl [HO]; · iexact HO
  isplitl [Hx] <;> iassumption

end Cert.K

end
-- ==== Proof.Body.lean ====
/-
# `Body`: the whole body

The steps run in their loops, from what a device holds when its body starts to what it holds when it ends.
-/
module

public import proofs.«01_k».proof.Proof.Steps

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## Families over the links -/

/-- A product over the links is the products over the five kinds. -/
theorem lk_split (Φ : Lk → sProp 𝕄) : bigSep Finset.univ Φ = iprop((bigSep Finset.univ fun k : Fin 8 => Φ (.y k)) ∗ (bigSep Finset.univ fun k : Fin 8 => Φ (.x k))
    ∗ (bigSep Finset.univ fun k : Fin 8 => Φ (.z k)) ∗ (bigSep Finset.univ fun k : Fin 4 => Φ (.xd k)) ∗ (bigSep Finset.univ fun k : Fin 4 => Φ (.zd k))) := by
  rw [bigSep_univ_sum, bigSep_univ_sum, bigSep_univ_sum, bigSep_univ_sum]; rfl

/-- A product over the relays, by step, is the products over the two kinds of relay. -/
theorem rl_split (Φ : Lk → sProp 𝕄) : (bigSep Finset.univ fun k : Fin 8 => Φ (rl k))
    = iprop((bigSep Finset.univ fun k : Fin 4 => Φ (.xd k)) ∗ (bigSep Finset.univ fun k : Fin 4 => Φ (.zd k))) := by
  rw [bigSep_univ_equiv (finSumFinEquiv (m := 4) (n := 4)), bigSep_univ_sum]
  have h1 : ∀ k : Fin 4, rl (finSumFinEquiv (m := 4) (n := 4) (.inl k)) = .xd k := by decide
  have h2 : ∀ k : Fin 4, rl (finSumFinEquiv (m := 4) (n := 4) (.inr k)) = .zd k := by decide
  simp only [h1, h2]; rfl

/-! ## A loop under what every core knows -/

/-- A loop of steps under the common context: each turns its own resources into what it leaves. -/
theorem wp_loop (n : ℕ) (f : Fin n → P F PUnit) (R : ℕ → sProp 𝕄) (B A : Fin n → sProp 𝕄) (Q : PUnit.{1} → sProp 𝕄)
    (step : ∀ (k : Fin n) (Q : PUnit.{1} → sProp 𝕄), iprop(Ctx m K ∗ R k.val ∗ B k) ⊢ iprop((R (k.val + 1) ∗ A k -∗ Q ⟨⟩) -∗ WP c (f k) Q)) :
    iprop(Ctx m K ∗ R 0 ∗ bigSep Finset.univ B) ⊢ iprop((R n ∗ bigSep Finset.univ A -∗ Q ⟨⟩) -∗ WP c (seqN n f) Q) := by
  have h : iprop(iprop(Ctx m K ∗ R 0) ∗ bigSep Finset.univ B) ⊢ iprop((iprop(Ctx m K ∗ R n) ∗ bigSep Finset.univ A -∗ Q ⟨⟩) -∗ WP c (seqN n f) Q) :=
    wp_seqN n f (fun k => iprop(Ctx m K ∗ R k)) B A Q fun k Q => by
      iintro ⟨⟨#HC, HR⟩, HB⟩ Hk
      iapply (step k Q) $$ [HR HB]
      · isplitr; · iexact HC
        isplitl [HR] <;> iassumption
      iintro ⟨HR, HA⟩
      iapply Hk
      isplitr [HA]
      · isplitr; · iexact HC
        iexact HR
      iexact HA
  iintro ⟨#HC, HR, HB⟩ Hk
  iapply h $$ [HR HB]
  · isplitr [HB]
    · isplitr; · iexact HC
      iexact HR
    iexact HB
  iintro ⟨⟨-, HR⟩, HA⟩
  iapply Hk
  isplitl [HR] <;> iassumption

/-! ## The entry -/

/-- What the entry finds: the slots idle, the places the neighbours will write, a token for each of their barriers; -/
def before : sProp 𝕄 :=
  iprop((idleSt m c (par 0) ∗ idleSt m c (par 1) ∗ idleLo m c (par 0) ∗ idleLo m c (par 1))
    ∗ (dutyTok ER (barCell (devY c)) 0 0 ∗ dutyTok ER (barCell (devX c)) 0 1 ∗ dutyTok ER (barCell (devZ c)) 0 2)
    ∗ (places c 0 ∗ places c 1 ∗ places c 2)
    ∗ atPos ER (barCell c) 0 ∅ 0 ∗ cred (tallyAt (barCell c) () 3) ∗ OW c (O₀ c))
/-- and what it leaves: the first rows on their way, the places on the neighbours. -/
def entered : sProp 𝕄 :=
  iprop((slotSt m c 0 ∗ slotSt m c 1 ∗ slotLo m c 0 ∗ slotLo m c 1)
    ∗ (bigSep Finset.univ fun ℓ : Lk => free (peer ℓ c) (dst ℓ)) ∗ semVal (barCell c) 0 ∗ OW c (owe (todo 0) c))

/-- The entry: the three neighbours told, and waited for. -/
theorem wp_entry (Q : PUnit.{1} → sProp 𝕄) :
    iprop(Ctx m K ∗ before m c) ⊢ iprop((entered m c -∗ Q ⟨⟩) -∗ WP c (entry c) Q) := by
  have h0 (Q : PUnit.{1} → sProp 𝕄) : idleSt m c (par 0) ⊢ iprop((slotSt m c 0 -∗ Q ⟨⟩) -∗ WP c (stageCp c 0) Q) := wp_stageCp m c 0
  have h1 (Q : PUnit.{1} → sProp 𝕄) : idleSt m c (par 1) ⊢ iprop((slotSt m c 1 -∗ Q ⟨⟩) -∗ WP c (stageCp c 1) Q) := wp_stageCp m c 1
  have hy (Q : PUnit.{1} → sProp 𝕄) : iprop(Ctx m K ∗ dutyTok ER (barCell (devY c)) 0 0 ∗ places c 0 ∗ OW c (O₀ c))
      ⊢ iprop((OW c (owe (todo 0) c + tallyAt (barCell (devZ c)) () 1 + tallyAt (barCell (devX c)) () 1) -∗ Q ⟨⟩)
        -∗ WP c (semSignalWord (⟨k0_dev1 c, k0_dev1_lt c⟩ : Dev nD) barS 1#32) Q) := wp_tell m K c 0 _
  have hx (Q : PUnit.{1} → sProp 𝕄) : iprop(Ctx m K ∗ dutyTok ER (barCell (devX c)) 0 1 ∗ places c 1 ∗ OW c (owe (todo 0) c + tallyAt (barCell (devZ c)) () 1 + tallyAt (barCell (devX c)) () 1))
      ⊢ iprop((OW c (owe (todo 0) c + tallyAt (barCell (devZ c)) () 1) -∗ Q ⟨⟩)
        -∗ WP c (semSignalWord (⟨k0_dev2 c, k0_dev2_lt c⟩ : Dev nD) barS 1#32) Q) := wp_tell m K c 1 _
  have hz (Q : PUnit.{1} → sProp 𝕄) : iprop(Ctx m K ∗ dutyTok ER (barCell (devZ c)) 0 2 ∗ places c 2 ∗ OW c (owe (todo 0) c + tallyAt (barCell (devZ c)) () 1))
      ⊢ iprop((OW c (owe (todo 0) c) -∗ Q ⟨⟩)
        -∗ WP c (semSignalWord (⟨k0_dev3 c, k0_dev3_lt c⟩ : Dev nD) barS 1#32) Q) := wp_tell m K c 2 _
  unfold before entered entry
  iintro ⟨#HC, ⟨Hs0, Hs1, Hl0, Hl1⟩, ⟨Hty, Htx, Htz⟩, ⟨Hpy, Hpx, Hpz⟩, Hat, Hcr, HO⟩ Hk
  iapply wp_then
  iapply (h0 _) $$ Hs0
  iintro Hs0
  iapply wp_then
  iapply (h1 _) $$ Hs1
  iintro Hs1
  iapply wp_then
  iapply (wp_localCp m c 0 (by decide)) $$ Hl0
  iintro Hl0
  iapply wp_then
  iapply (wp_localCp m c 1 (by decide)) $$ Hl1
  iintro Hl1
  iapply wp_then
  iapply (hy _) $$ [Hty Hpy HO]
  · isplitr; · iexact HC
    isplitl [Hty]; · iexact Hty
    isplitl [Hpy] <;> iassumption
  iintro HO
  iapply wp_then
  iapply (hx _) $$ [Htx Hpx HO]
  · isplitr; · iexact HC
    isplitl [Htx]; · iexact Htx
    isplitl [Hpx] <;> iassumption
  iintro HO
  iapply wp_then
  iapply (hz _) $$ [Htz Hpz HO]
  · isplitr; · iexact HC
    isplitl [Htz]; · iexact Htz
    isplitl [Hpz] <;> iassumption
  iintro HO
  iapply (wp_barrier m K c) $$ [Hat Hcr HO]
  · isplitr; · iexact HC
    isplitl [Hat]; · iexact Hat
    isplitl [Hcr] <;> iassumption
  iintro ⟨Hp, Hz, HO⟩
  iapply Hk
  isplitl [Hs0 Hs1 Hl0 Hl1]
  · isplitl [Hs0]; · iexact Hs0
    isplitl [Hs1]; · iexact Hs1
    isplitl [Hl0] <;> iassumption
  isplitl [Hp]; · iexact Hp
  isplitl [Hz] <;> iassumption

/-! ## The loops -/

/-- What the loops use besides: each link's tokens and credits, and the buffers. -/
def supply : sProp 𝕄 :=
  iprop((bigSep Finset.univ fun ℓ : Lk => iprop(dutyTok ER (sendCell ℓ c) 0 0 ∗ dutyTok ER (recvCell ℓ (peer ℓ c)) 0 0))
    ∗ (bigSep Finset.univ fun ℓ : Lk => toRecv c ℓ)
    ∗ (bigSep Finset.univ fun ℓ : Lk => atPos ER (sendCell ℓ c) 0 ∅ 0)
    ∗ (bigSep Finset.univ fun k : Fin 8 => free c (v8 sndM k))
    ∗ (idleOut c (par 0) ∗ idleOut c (par 1) ∗ restOut c 0 ∗ gamH m c))

/-- The last two of the 32 chunks, taken apart from the others. -/
theorem done_all (Φ : ℕ → sProp 𝕄) : bigSep (Finset.range 32) Φ = iprop(Φ 31 ∗ Φ 30 ∗ bigSep (Finset.range 30) Φ) := by
  rw [bigSep_range_succ, bigSep_range_succ]
/-- When all chunks have been issued, all but the last two have been waited for. -/
theorem doneOut32 : (doneOut m c 32 : sProp 𝕄) = bigSep (Finset.range 30) fun j => held c (outRow c j) fullShare (outv m c j) := rfl

/-- What a forward's step leaves, the waiting tokens apart. -/
def AB' (k : Fin 8) : sProp 𝕄 := iprop(semVal (recvCell (.y k) c) 0 ∗ held c (v8 ryM k) fullShare.right.right (ly m k c))
def AC' (k : Fin 8) : sProp 𝕄 :=
  iprop(semVal (recvCell (.x k) c) 0 ∗ semVal (recvCell (.z k) c) 0 ∗ keep m c k
    ∗ held c (v8 rxM k) fullShare.right (lx m k c) ∗ held c (v8 rzM k) fullShare.right (lz m k c))

/-- What the forwarding steps leave: chunks, and the sends to wait for. -/
theorem AB_split : (bigSep Finset.univ fun k : Fin 8 => AB m c k)
    ⊢ iprop((bigSep Finset.univ fun k : Fin 8 => AB' m c k) ∗ (bigSep Finset.univ fun k : Fin 8 => sent c (.x k)) ∗ (bigSep Finset.univ fun k : Fin 8 => (sent c (.z k) : sProp 𝕄))) := by
  rw [← bigSep_sep', ← bigSep_sep']
  refine bigSep_mono fun k _ => (show AB m c k ⊢ iprop(AB' m c k ∗ sent c (.x k) ∗ sent c (.z k)) from ?_)
  unfold AB AB'
  iintro ⟨H1, H2, H3, H4⟩
  isplitl [H1 H4]; · isplitl [H1] <;> iassumption
  isplitl [H2] <;> iassumption

/-- What the relaying steps leave: chunks, and the sends to wait for. -/
theorem AC_split : (bigSep Finset.univ fun k : Fin 8 => AC m c k)
    ⊢ iprop((bigSep Finset.univ fun k : Fin 8 => AC' m c k) ∗ (bigSep Finset.univ fun k : Fin 4 => sent c (.xd k)) ∗ (bigSep Finset.univ fun k : Fin 4 => (sent c (.zd k) : sProp 𝕄))) := by
  rw [← rl_split (fun ℓ => sent c ℓ), ← bigSep_sep']
  refine bigSep_mono fun k _ => (show AC m c k ⊢ iprop(AC' m c k ∗ sent c (rl k)) from ?_)
  unfold AC AC'
  iintro ⟨H1, H2, H3, H4, H5, H6⟩
  isplitr [H3]
  · isplitl [H1]; · iexact H1
    isplitl [H2]; · iexact H2
    isplitl [H4]; · iexact H4
    isplitl [H5] <;> iassumption
  iexact H3

/-- The tokens of a link with its place on the neighbour. -/
theorem toSend_all :
    iprop((bigSep Finset.univ fun ℓ : Lk => iprop(dutyTok ER (sendCell ℓ c) 0 0 ∗ dutyTok ER (recvCell ℓ (peer ℓ c)) 0 0)) ∗ (bigSep Finset.univ fun ℓ : Lk => free (peer ℓ c) (dst ℓ)))
      ⊢ (bigSep Finset.univ fun ℓ : Lk => (toSend c ℓ : sProp 𝕄)) := by
  rw [← bigSep_sep']
  refine bigSep_mono fun ℓ _ => (show iprop(iprop(dutyTok ER (sendCell ℓ c) 0 0 ∗ dutyTok ER (recvCell ℓ (peer ℓ c)) 0 0) ∗ free (peer ℓ c) (dst ℓ)) ⊢ (toSend c ℓ : sProp 𝕄) from ?_)
  unfold toSend
  iintro ⟨⟨H1, H2⟩, H3⟩
  isplitl [H1]; · iexact H1
  isplitl [H2] <;> iassumption

/-- Families side by side, as a loop takes or leaves them. -/
theorem pair {n : ℕ} (Φ Ψ : Fin n → sProp 𝕄) : iprop(bigSep Finset.univ Φ ∗ bigSep Finset.univ Ψ) ⊢ bigSep Finset.univ fun k => iprop(Φ k ∗ Ψ k) :=
  Entails.of_eq (bigSep_sep' _ _ _).symm
/-- Three products are one product of triples; -/
theorem triple {n : ℕ} (Φ Ψ Χ : Fin n → sProp 𝕄) : iprop(bigSep Finset.univ Φ ∗ bigSep Finset.univ Ψ ∗ bigSep Finset.univ Χ) ⊢ bigSep Finset.univ fun k => iprop(Φ k ∗ Ψ k ∗ Χ k) := by
  rw [bigSep_sep', bigSep_sep']
/-- a product of pairs is two products, -/
theorem unpair {n : ℕ} (Φ Ψ : Fin n → sProp 𝕄) : (bigSep Finset.univ fun k => iprop(Φ k ∗ Ψ k)) ⊢ iprop(bigSep Finset.univ Φ ∗ bigSep Finset.univ Ψ) :=
  Entails.of_eq (bigSep_sep' _ _ _)
/-- and a product of triples is three. -/
theorem untriple {n : ℕ} (Φ Ψ Χ : Fin n → sProp 𝕄) : (bigSep Finset.univ fun k => iprop(Φ k ∗ Ψ k ∗ Χ k)) ⊢ iprop(bigSep Finset.univ Φ ∗ bigSep Finset.univ Ψ ∗ bigSep Finset.univ Χ) := by
  rw [bigSep_sep', bigSep_sep']

/-- The first half: sent, forwarded. -/
theorem wp_loops1 (p : P F PUnit) (Q : PUnit.{1} → sProp 𝕄) :
    iprop(Ctx m K ∗ (slotSt m c 0 ∗ slotSt m c 1 ∗ OW c (owe (todo 0) c) ∗ CS m c 0)
        ∗ (bigSep Finset.univ fun k : Fin 8 => BA c k) ∗ (bigSep Finset.univ fun k : Fin 8 => BB c k))
      ⊢ iprop((slotSt m c 8 ∗ slotSt m c 9 ∗ CS m c 8 ∗ OW c (owe (todo 24) c) ∗ (bigSep Finset.univ fun k : Fin 8 => sent c (.y k)) ∗ (bigSep Finset.univ fun k : Fin 8 => AB m c k)
            -∗ WP c p Q)
          -∗ WP c (seqN 8 (stepA c) >>= fun _ => seqN 8 (stepB c) >>= fun _ => p) Q) := by
  have hA (Q : PUnit.{1} → sProp 𝕄) : iprop(Ctx m K ∗ (slotSt m c 0 ∗ slotSt m c 1 ∗ OW c (owe (todo 0) c)) ∗ bigSep Finset.univ fun k : Fin 8 => BA c k)
      ⊢ iprop(((slotSt m c 8 ∗ slotSt m c 9 ∗ OW c (owe (todo 8) c)) ∗ (bigSep Finset.univ fun k : Fin 8 => sent c (.y k)) -∗ Q ⟨⟩) -∗ WP c (seqN 8 (stepA c)) Q) :=
    wp_loop m K c 8 (stepA c) (RA m c) (fun k => BA c k) (fun k => sent c (.y k)) Q (wp_stepA m K c)
  have hB (Q : PUnit.{1} → sProp 𝕄) : iprop(Ctx m K ∗ (CS m c 0 ∗ OW c (owe (todo 8) c)) ∗ bigSep Finset.univ fun k : Fin 8 => BB c k)
      ⊢ iprop(((CS m c 8 ∗ OW c (owe (todo 24) c)) ∗ (bigSep Finset.univ fun k : Fin 8 => AB m c k) -∗ Q ⟨⟩) -∗ WP c (seqN 8 (stepB c)) Q) :=
    wp_loop m K c 8 (stepB c) (RB m c) (fun k => BB c k) (fun k => AB m c k) Q (wp_stepB m K c)
  iintro ⟨#HC, ⟨Hs0, Hs1, HO, HS⟩, HA, HB⟩ Hk
  iapply wp_then
  iapply (hA _) $$ [Hs0 Hs1 HO HA]
  · isplitr; · iexact HC
    isplitl [Hs0 Hs1 HO]
    · isplitl [Hs0]; · iexact Hs0
      isplitl [Hs1] <;> iassumption
    iexact HA
  iintro ⟨⟨Hs0, Hs1, HO⟩, HA⟩
  iapply wp_then
  iapply (hB _) $$ [HS HO HB]
  · isplitr; · iexact HC
    isplitl [HS HO]; · isplitl [HS] <;> iassumption
    iexact HB
  iintro ⟨⟨HS, HO⟩, HB⟩
  iapply Hk
  isplitl [Hs0]; · iexact Hs0
  isplitl [Hs1]; · iexact Hs1
  isplitl [HS]; · iexact HS
  isplitl [HO]; · iexact HO
  isplitl [HA] <;> iassumption

/-- The second half: relayed, finished. -/
theorem wp_loops2 (p : P F PUnit) (Q : PUnit.{1} → sProp 𝕄) :
    iprop(Ctx m K ∗ CS m c 8 ∗ OW c (owe (todo 24) c)
        ∗ (bigSep Finset.univ fun k : Fin 8 => BC c k) ∗ (bigSep Finset.univ fun k : Fin 4 => toRecv c (.xd k)) ∗ (bigSep Finset.univ fun k : Fin 4 => toRecv c (.zd k)))
      ⊢ iprop((CS m c 32 ∗ OW c (owe (todo 32) c) ∗ (bigSep Finset.univ fun k : Fin 8 => AC m c k) ∗ (bigSep Finset.univ fun k : Fin 4 => AD m c k) ∗ (bigSep Finset.univ fun k : Fin 4 => AE m c k)
            -∗ WP c p Q)
          -∗ WP c (seqN 8 (stepC c) >>= fun _ => seqN 4 (stepD c) >>= fun _ => seqN 4 (stepE c) >>= fun _ => p) Q) := by
  have hC (Q : PUnit.{1} → sProp 𝕄) : iprop(Ctx m K ∗ (CS m c 8 ∗ OW c (owe (todo 24) c)) ∗ bigSep Finset.univ fun k : Fin 8 => BC c k)
      ⊢ iprop(((CS m c 24 ∗ OW c (owe (todo 32) c)) ∗ (bigSep Finset.univ fun k : Fin 8 => AC m c k) -∗ Q ⟨⟩) -∗ WP c (seqN 8 (stepC c)) Q) :=
    wp_loop m K c 8 (stepC c) (RC m c) (fun k => BC c k) (fun k => AC m c k) Q (wp_stepC m K c)
  have hD (Q : PUnit.{1} → sProp 𝕄) : iprop(Ctx m K ∗ (CS m c 24 ∗ OW c (owe (todo 32) c)) ∗ bigSep Finset.univ fun k : Fin 4 => toRecv c (.xd k))
      ⊢ iprop(((CS m c 28 ∗ OW c (owe (todo 32) c)) ∗ (bigSep Finset.univ fun k : Fin 4 => AD m c k) -∗ Q ⟨⟩) -∗ WP c (seqN 4 (stepD c)) Q) :=
    wp_loop m K c 4 (stepD c) (RD m c 24) (fun k => toRecv c (.xd k)) (fun k => AD m c k) Q (wp_stepD m K c)
  have hE (Q : PUnit.{1} → sProp 𝕄) : iprop(Ctx m K ∗ (CS m c 28 ∗ OW c (owe (todo 32) c)) ∗ bigSep Finset.univ fun k : Fin 4 => toRecv c (.zd k))
      ⊢ iprop(((CS m c 32 ∗ OW c (owe (todo 32) c)) ∗ (bigSep Finset.univ fun k : Fin 4 => AE m c k) -∗ Q ⟨⟩) -∗ WP c (seqN 4 (stepE c)) Q) :=
    wp_loop m K c 4 (stepE c) (RD m c 28) (fun k => toRecv c (.zd k)) (fun k => AE m c k) Q (wp_stepE m K c)
  iintro ⟨#HC, HS, HO, HC', HD, HE⟩ Hk
  iapply wp_then
  iapply (hC _) $$ [HS HO HC']
  · isplitr; · iexact HC
    isplitl [HS HO]; · isplitl [HS] <;> iassumption
    iexact HC'
  iintro ⟨⟨HS, HO⟩, HC'⟩
  iapply wp_then
  iapply (hD _) $$ [HS HO HD]
  · isplitr; · iexact HC
    isplitl [HS HO]; · isplitl [HS] <;> iassumption
    iexact HD
  iintro ⟨⟨HS, HO⟩, HD⟩
  iapply wp_then
  iapply (hE _) $$ [HS HO HE]
  · isplitr; · iexact HC
    isplitl [HS HO]; · isplitl [HS] <;> iassumption
    iexact HE
  iintro ⟨⟨HS, HO⟩, HE⟩
  iapply Hk
  isplitl [HS]; · iexact HS
  isplitl [HO]; · iexact HO
  isplitl [HC']; · iexact HC'
  isplitl [HD] <;> iassumption

/-- The waits for what was sent, and for the last two chunks of the result. -/
theorem wp_loops3 (Q : PUnit.{1} → sProp 𝕄) :
    iprop(Ctx m K ∗ CS m c 32 ∗ OW c (owe (todo 32) c) ∗ (bigSep Finset.univ fun ℓ : Lk => toWait c ℓ))
      ⊢ iprop((OW c (owe (todo 32) c) ∗ gamH m c ∗ (slotLo m c 32 ∗ slotLo m c 33 ∗ idleOut c (par 30) ∗ idleOut c (par 31))
            ∗ (bigSep (Finset.range 32) fun j => held c (outRow c j) fullShare (outv m c j)) ∗ (bigSep Finset.univ fun ℓ : Lk => back m c ℓ) -∗ Q ⟨⟩)
          -∗ WP c (seqN 8 (stepW c) >>= fun _ => seqN 4 (stepV c) >>= fun _ => outWait c 30 >>= fun _ => outWait c 31) Q) := by
  have hW (Q : PUnit.{1} → sProp 𝕄) : iprop(Ctx m K ∗ OW c (owe (todo 32) c) ∗ bigSep Finset.univ fun k : Fin 8 => iprop(toWait c (.y k) ∗ toWait c (.x k) ∗ toWait c (.z k)))
      ⊢ iprop((OW c (owe (todo 32) c) ∗ (bigSep Finset.univ fun k : Fin 8 => iprop(back m c (.y k) ∗ back m c (.x k) ∗ back m c (.z k))) -∗ Q ⟨⟩) -∗ WP c (seqN 8 (stepW c)) Q) :=
    wp_loop m K c 8 (stepW c) (fun _ => OW c (owe (todo 32) c)) (fun k => iprop(toWait c (.y k) ∗ toWait c (.x k) ∗ toWait c (.z k)))
      (fun k => iprop(back m c (.y k) ∗ back m c (.x k) ∗ back m c (.z k))) Q (wp_stepW m K c)
  have hV (Q : PUnit.{1} → sProp 𝕄) : iprop(Ctx m K ∗ OW c (owe (todo 32) c) ∗ bigSep Finset.univ fun k : Fin 4 => iprop(toWait c (.xd k) ∗ toWait c (.zd k)))
      ⊢ iprop((OW c (owe (todo 32) c) ∗ (bigSep Finset.univ fun k : Fin 4 => iprop(back m c (.xd k) ∗ back m c (.zd k))) -∗ Q ⟨⟩) -∗ WP c (seqN 4 (stepV c)) Q) :=
    wp_loop m K c 4 (stepV c) (fun _ => OW c (owe (todo 32) c)) (fun k => iprop(toWait c (.xd k) ∗ toWait c (.zd k)))
      (fun k => iprop(back m c (.xd k) ∗ back m c (.zd k))) Q (wp_stepV m K c)
  rw [lk_split, lk_split, done_all, ← doneOut32]
  unfold CS
  iintro ⟨#HC, ⟨Hl, Hl', Ho, Ho', Hd, -, Hg⟩, HO, Hy, Hx, Hz, Hxd, Hzd⟩ Hk
  iapply wp_then
  iapply (hW _) $$ [HO Hy Hx Hz]
  · isplitr; · iexact HC
    isplitl [HO]; · iexact HO
    iapply (triple (fun k : Fin 8 => (toWait c (.y k) : sProp 𝕄)) (fun k => toWait c (.x k)) (fun k => toWait c (.z k)))
    isplitl [Hy]; · iexact Hy
    isplitl [Hx] <;> iassumption
  iintro ⟨HO, HW⟩
  ihave HW := (untriple (fun k : Fin 8 => back m c (.y k)) (fun k => back m c (.x k)) (fun k => back m c (.z k))) $$ HW
  iapply wp_then
  iapply (hV _) $$ [HO Hxd Hzd]
  · isplitr; · iexact HC
    isplitl [HO]; · iexact HO
    iapply (pair (fun k : Fin 4 => (toWait c (.xd k) : sProp 𝕄)) (fun k => toWait c (.zd k)))
    isplitl [Hxd] <;> iassumption
  iintro ⟨HO, HV⟩
  ihave HV := (unpair (fun k : Fin 4 => back m c (.xd k)) (fun k => back m c (.zd k))) $$ HV
  icases HW with ⟨Hy, Hx, Hz⟩
  icases HV with ⟨Hxd, Hzd⟩
  iapply wp_then
  iapply (wp_outWait m K c 30 32) $$ [Ho HO]
  · isplitr; · iexact HC
    isplitl [Ho] <;> iassumption
  iintro ⟨Hr, Ho, HO⟩
  iapply (wp_outWait m K c 31 32) $$ [Ho' HO]
  · isplitr; · iexact HC
    isplitl [Ho'] <;> iassumption
  iintro ⟨Hr', Ho', HO⟩
  iapply Hk
  isplitl [HO]; · iexact HO
  isplitl [Hg]; · iexact Hg
  isplitl [Hl Hl' Ho Ho']
  · isplitl [Hl]; · iexact Hl
    isplitl [Hl']; · iexact Hl'
    isplitl [Ho] <;> iassumption
  isplitl [Hr Hr' Hd]
  · isplitl [Hr']; · iexact Hr'
    isplitl [Hr] <;> iassumption
  isplitl [Hy]; · iexact Hy
  isplitl [Hx]; · iexact Hx
  isplitl [Hz]; · iexact Hz
  isplitl [Hxd] <;> iassumption

/-- What the body leaves, all told. -/
def finished : sProp 𝕄 :=
  iprop((OW c (owe (todo 32) c) ∗ semVal (barCell c) 0 ∗ gamH m c)
    ∗ (slotSt m c 8 ∗ slotSt m c 9 ∗ slotLo m c 32 ∗ slotLo m c 33 ∗ idleOut c (par 30) ∗ idleOut c (par 31))
    ∗ (bigSep (Finset.range 32) fun j => held c (outRow c j) fullShare (outv m c j))
    ∗ ((bigSep Finset.univ fun k : Fin 8 => AB' m c k) ∗ (bigSep Finset.univ fun k : Fin 8 => AC' m c k)
      ∗ (bigSep Finset.univ fun k : Fin 4 => AD m c k) ∗ (bigSep Finset.univ fun k : Fin 4 => AE m c k))
    ∗ (bigSep Finset.univ fun ℓ : Lk => back m c ℓ))

/-- All that is needed to wait for every send. -/
theorem toWait_all :
    iprop(((bigSep Finset.univ fun k : Fin 8 => sent c (.y k)) ∗ (bigSep Finset.univ fun k : Fin 8 => sent c (.x k)) ∗ (bigSep Finset.univ fun k : Fin 8 => sent c (.z k))
        ∗ (bigSep Finset.univ fun k : Fin 4 => sent c (.xd k)) ∗ (bigSep Finset.univ fun k : Fin 4 => sent c (.zd k)))
        ∗ (bigSep Finset.univ fun ℓ : Lk => atPos ER (sendCell ℓ c) 0 ∅ 0))
      ⊢ (bigSep Finset.univ fun ℓ : Lk => (toWait c ℓ : sProp 𝕄)) := by
  rw [← lk_split (fun ℓ => sent c ℓ), ← bigSep_sep']
  exact bigSep_mono fun ℓ _ => Entails.refl _

set_option maxHeartbeats 1000000 in
/-- The whole body: from what a device has at its start to what it has at its end. -/
theorem wp_bodyOn (Q : PUnit.{1} → sProp 𝕄) :
    iprop(Ctx m K ∗ before m c ∗ supply m c) ⊢ iprop((finished m c -∗ Q ⟨⟩) -∗ WP c (bodyOn c) Q) := by
  have hs : iprop((bigSep Finset.univ fun ℓ : Lk => iprop(dutyTok ER (sendCell ℓ c) 0 0 ∗ dutyTok ER (recvCell ℓ (peer ℓ c)) 0 0)) ∗ (bigSep Finset.univ fun ℓ : Lk => free (peer ℓ c) (dst ℓ)))
      ⊢ iprop((bigSep Finset.univ fun k : Fin 8 => toSend c (.y k)) ∗ (bigSep Finset.univ fun k : Fin 8 => toSend c (.x k)) ∗ (bigSep Finset.univ fun k : Fin 8 => toSend c (.z k))
        ∗ (bigSep Finset.univ fun k : Fin 8 => (toSend c (rl k) : sProp 𝕄))) := by
    rw [rl_split (fun ℓ => toSend c ℓ), ← lk_split (fun ℓ => toSend c ℓ)]; exact toSend_all c
  have hr := Entails.of_eq (lk_split (fun ℓ => (toRecv c ℓ : sProp 𝕄)))
  unfold supply bodyOn finished
  iintro ⟨#HC, Hb, Htok, Hr, Hat, Hsnd, Ho, Ho', Hro, Hg⟩ Hk
  iapply wp_then
  iapply (wp_entry m K c) $$ [Hb]
  · isplitr; · iexact HC
    iexact Hb
  unfold entered
  iintro ⟨⟨Hs0, Hs1, Hl0, Hl1⟩, Hp, Hz, HO⟩
  ihave Hs := hs $$ [Htok Hp]
  · isplitl [Htok] <;> iassumption
  icases Hs with ⟨Hty, Htx, Htz, Htr⟩
  ihave Hr := hr $$ Hr
  icases Hr with ⟨Hry, Hrx, Hrz, Hrxd, Hrzd⟩
  iapply (wp_loops1 m K c) $$ [Hs0 Hs1 HO Hl0 Hl1 Ho Ho' Hro Hg Hsnd Hty Hry Htx Htz]
  · isplitr; · iexact HC
    isplitl [Hs0 Hs1 HO Hl0 Hl1 Ho Ho' Hro Hg]
    · isplitl [Hs0]; · iexact Hs0
      isplitl [Hs1]; · iexact Hs1
      isplitl [HO]; · iexact HO
      unfold CS
      isplitl [Hl0]; · iexact Hl0
      isplitl [Hl1]; · iexact Hl1
      isplitl [Ho]; · rw [show slotOut m c 0 = idleOut c (par 0) from rfl]; iexact Ho
      isplitl [Ho']; · rw [show slotOut m c (0 + 1) = idleOut c (par 1) from rfl]; iexact Ho'
      isplitr
      · rw [show (doneOut m c 0 : sProp 𝕄) = iprop(emp) from bigSep_empty]; iempintro
      isplitl [Hro] <;> iassumption
    isplitl [Hsnd Hty]
    · iapply (pair (fun k : Fin 8 => (free c (v8 sndM k) : sProp 𝕄)) (fun k => toSend c (.y k)))
      isplitl [Hsnd] <;> iassumption
    iapply (triple (fun k : Fin 8 => (toRecv c (.y k) : sProp 𝕄)) (fun k => toSend c (.x k)) (fun k => toSend c (.z k)))
    isplitl [Hry]; · iexact Hry
    isplitl [Htx] <;> iassumption
  iintro ⟨Hs0, Hs1, HS, HO, Hwy, HB⟩
  ihave HB := (AB_split m c) $$ HB
  icases HB with ⟨HB, Hwx, Hwz⟩
  iapply (wp_loops2 m K c) $$ [HS HO Hrx Hrz Htr Hrxd Hrzd]
  · isplitr; · iexact HC
    isplitl [HS]; · iexact HS
    isplitl [HO]; · iexact HO
    isplitl [Hrx Hrz Htr]
    · iapply (triple (fun k : Fin 8 => (toRecv c (.x k) : sProp 𝕄)) (fun k => toRecv c (.z k)) (fun k => toSend c (rl k)))
      isplitl [Hrx]; · iexact Hrx
      isplitl [Hrz] <;> iassumption
    isplitl [Hrxd] <;> iassumption
  iintro ⟨HS, HO, HCC, HD, HE⟩
  ihave HCC := (AC_split m c) $$ HCC
  icases HCC with ⟨HCC, Hwxd, Hwzd⟩
  ihave Hw := (toWait_all c) $$ [Hwy Hwx Hwz Hwxd Hwzd Hat]
  · isplitr [Hat]
    · isplitl [Hwy]; · iexact Hwy
      isplitl [Hwx]; · iexact Hwx
      isplitl [Hwz]; · iexact Hwz
      isplitl [Hwxd] <;> iassumption
    iexact Hat
  iapply (wp_loops3 m K c) $$ [HS HO Hw]
  · isplitr; · iexact HC
    isplitl [HS]; · iexact HS
    isplitl [HO] <;> iassumption
  iintro ⟨HO, Hg, ⟨Hl0, Hl1, Ho, Ho'⟩, Hout, Hback⟩
  iapply Hk
  isplitl [HO Hz Hg]
  · isplitl [HO]; · iexact HO
    isplitl [Hz] <;> iassumption
  isplitl [Hs0 Hs1 Hl0 Hl1 Ho Ho']
  · isplitl [Hs0]; · iexact Hs0
    isplitl [Hs1]; · iexact Hs1
    isplitl [Hl0]; · iexact Hl0
    isplitl [Hl1]; · iexact Hl1
    isplitl [Ho] <;> iassumption
  isplitl [Hout]; · iexact Hout
  isplitl [HB HCC HD HE]
  · isplitl [HB]; · iexact HB
    isplitl [HCC]; · iexact HCC
    isplitl [HD] <;> iassumption
  iexact Hback

end Cert.K

end
-- ==== Proof.Slots.lean ====
/-
# `Slots`: whole buffers and their chunks

A core is handed whole buffers and hands whole buffers back; the body works with their chunks. Here each buffer is cut
into its chunks and put together again.
-/
module

public import proofs.«01_k».proof.Proof.Body
public import Idealize.ShloMosaic.Lib.Ring

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## A buffer and its slots -/

/-- A buffer at some contents. -/
abbrev someBuf (b : Ref sig .tc) : sProp 𝕄 := iprop(∃ f : Buf (Elt F) ((c : Thread nD τ).loc b), ((c : Thread nD τ).loc b) ↦{fullShare} f)

section Cut
variable {n : ℕ}

/-- Slot `i` of `n` slots of 64 rows. -/
abbrev slotR (n : ℕ) (i : Fin n) (h : ∀ a, (![i.val, 0, 0] : Fin 3 → Nat) a + S1x64x2048.size a ≤ (⟨3, ![n, 64, 2048]⟩ : Shape).size a) : Rect ⟨3, ![n, 64, 2048]⟩ :=
  Rect.unit (s := ⟨3, ![n, 64, 2048]⟩) ![i.val, 0, 0] S1x64x2048.size h

variable (hin : ∀ i : Fin n, ∀ a, (![i.val, 0, 0] : Fin 3 → Nat) a + S1x64x2048.size a ≤ (⟨3, ![n, 64, 2048]⟩ : Shape).size a)

/-- Slots don't overlap, -/
theorem slotR_disj (i j : Fin n) (h : i ≠ j) : Disjoint (slotR n i (hin i)).set (slotR n j (hin j)).set := by
  refine Rect.unit_disjoint (s := ⟨3, ![n, 64, 2048]⟩) (0 : Fin 3) ?_
  have h : i.val ≠ j.val := fun e => h (Fin.ext e)
  show i.val + 1 ≤ j.val ∨ j.val + 1 ≤ i.val
  omega

/-- and together are the buffer. -/
theorem slotR_cover : (Finset.univ : Finset (Fin n)).biUnion (fun i => (slotR n i (hin i)).set) = Finset.univ := by
  ext x
  simp only [Finset.mem_biUnion, Finset.mem_univ, true_and, iff_true]
  refine ⟨⟨(x (0 : Fin 3)).val, (x (0 : Fin 3)).isLt⟩, (Rect.mem_set_unit (s := ⟨3, ![n, 64, 2048]⟩)).mpr fun a => ?_⟩
  match a with
  | ⟨0, _⟩ => exact ⟨Nat.le_refl _, Nat.lt_succ_self _⟩
  | ⟨1, _⟩ => exact ⟨Nat.zero_le _, (Nat.zero_add _).symm ▸ (x (1 : Fin 3)).isLt⟩
  | ⟨2, _⟩ => exact ⟨Nat.zero_le _, (Nat.zero_add _).symm ▸ (x (2 : Fin 3)).isLt⟩

end Cut

/-- A buffer at some contents is, piece by piece, the pieces at some contents. -/
theorem cut_buf {n : ℕ} (b : Ref sig .tc) (I : Fin n → Finset (Idx ((c : Thread nD τ).loc b))) (hd : ∀ i j, i ≠ j → Disjoint (I i) (I j))
    (hc : Finset.univ.biUnion I = Finset.univ) :
    (someBuf c b : sProp 𝕄) ⊣⊢ bigSep Finset.univ fun i => iprop(∃ f : Buf (Elt F) ((c : Thread nD τ).loc b), ((c : Thread nD τ).loc b) ↦[I i]{fullShare} f) := by
  constructor
  · iintro ⟨%f, H⟩
    have h : (((c : Thread nD τ).loc b) ↦{fullShare} f : sProp 𝕄) ⊢ bigSep Finset.univ fun i => iprop(∃ f : Buf (Elt F) ((c : Thread nD τ).loc b), ((c : Thread nD τ).loc b) ↦[I i]{fullShare} f) := by
      rw [Ring.pointsTo_blocks I hd hc f]
      exact bigSep_mono fun i _ => (show (((c : Thread nD τ).loc b) ↦[I i]{fullShare} f : sProp 𝕄) ⊢ iprop(∃ f : Buf (Elt F) ((c : Thread nD τ).loc b), ((c : Thread nD τ).loc b) ↦[I i]{fullShare} f) from by
        iintro H; iexists f; iexact H)
    iapply h $$ H
  · exact Ring.pointsTo_blocks_join_exists I hd hc (fun _ => Classical.arbitrary _)

/-- A chunk is free: its elements are owned, whatever they hold. -/
theorem free_eq {sp : Space} {s : Shape} {e : EltTy} (v : Memref sig .tc sp s e) (S : Finset (Idx (v.view.loc (c : Thread nD τ)))) (h : v.view.set = S) :
    (free c v : sProp 𝕄) = iprop(∃ f : Buf (Elt F) (v.view.loc (c : Thread nD τ)), v.view.loc (c : Thread nD τ) ↦[S]{fullShare} f) := by
  subst h; rfl

/-- The elements of a slot of the staging buffer, -/
theorem set_stg (i : Fin 2) : (v2 stgM i).view.set = (rect2 i).set :=
  (squeeze_set _ (rect2 i) _ _).trans (View.set_slice_whole cc0_scratch0 (rect2 i))
/-- and the buffer cut into its slots. -/
theorem cut_stg : (someBuf c cc0_scratch0 : sProp 𝕄) ⊣⊢ bigSep Finset.univ fun i : Fin 2 => free c (v2 stgM i) := by
  rw [bigSep_congr fun i _ => free_eq c (v2 stgM i) (rect2 i).set (set_stg i)]
  exact cut_buf c cc0_scratch0 (fun i => (rect2 i).set) (slotR_disj inb2) (slotR_cover inb2)

/-- The elements of a slot of the buffer of chunks sent, -/
theorem set_snd (i : Fin 8) : (v8 sndM i).view.set = (rect8 i).set :=
  (squeeze_set _ (rect8 i) _ _).trans (View.set_slice_whole cc0_scratch1 (rect8 i))
/-- and the buffer cut into its slots. -/
theorem cut_snd : (someBuf c cc0_scratch1 : sProp 𝕄) ⊣⊢ bigSep Finset.univ fun i : Fin 8 => free c (v8 sndM i) := by
  rw [bigSep_congr fun i _ => free_eq c (v8 sndM i) (rect8 i).set (set_snd i)]
  exact cut_buf c cc0_scratch1 (fun i => (rect8 i).set) (slotR_disj inb8) (slotR_cover inb8)

/-- The elements of a slot of the buffer of chunks come along `y`, -/
theorem set_ry (i : Fin 8) : (v8 ryM i).view.set = (rect8 i).set :=
  (squeeze_set _ (rect8 i) _ _).trans (View.set_slice_whole cc0_scratch2 (rect8 i))
/-- and the buffer cut into its slots. -/
theorem cut_ry : (someBuf c cc0_scratch2 : sProp 𝕄) ⊣⊢ bigSep Finset.univ fun i : Fin 8 => free c (v8 ryM i) := by
  rw [bigSep_congr fun i _ => free_eq c (v8 ryM i) (rect8 i).set (set_ry i)]
  exact cut_buf c cc0_scratch2 (fun i => (rect8 i).set) (slotR_disj inb8) (slotR_cover inb8)

/-- The elements of a slot of the buffer of chunks come along `x`, -/
theorem set_rx (i : Fin 8) : (v8 rxM i).view.set = (rect8 i).set :=
  (squeeze_set _ (rect8 i) _ _).trans (View.set_slice_whole cc0_scratch3 (rect8 i))
/-- and the buffer cut into its slots. -/
theorem cut_rx : (someBuf c cc0_scratch3 : sProp 𝕄) ⊣⊢ bigSep Finset.univ fun i : Fin 8 => free c (v8 rxM i) := by
  rw [bigSep_congr fun i _ => free_eq c (v8 rxM i) (rect8 i).set (set_rx i)]
  exact cut_buf c cc0_scratch3 (fun i => (rect8 i).set) (slotR_disj inb8) (slotR_cover inb8)

/-- The elements of a slot of the buffer of chunks come along `z`, -/
theorem set_rz (i : Fin 8) : (v8 rzM i).view.set = (rect8 i).set :=
  (squeeze_set _ (rect8 i) _ _).trans (View.set_slice_whole cc0_scratch4 (rect8 i))
/-- and the buffer cut into its slots. -/
theorem cut_rz : (someBuf c cc0_scratch4 : sProp 𝕄) ⊣⊢ bigSep Finset.univ fun i : Fin 8 => free c (v8 rzM i) := by
  rw [bigSep_congr fun i _ => free_eq c (v8 rzM i) (rect8 i).set (set_rz i)]
  exact cut_buf c cc0_scratch4 (fun i => (rect8 i).set) (slotR_disj inb8) (slotR_cover inb8)

/-- The elements of a slot of the buffer of chunks relayed along `x`, -/
theorem set_rxd (i : Fin 4) : (v4 rxdM i).view.set = (rect4 i).set :=
  (squeeze_set _ (rect4 i) _ _).trans (View.set_slice_whole cc0_scratch5 (rect4 i))
/-- and the buffer cut into its slots. -/
theorem cut_rxd : (someBuf c cc0_scratch5 : sProp 𝕄) ⊣⊢ bigSep Finset.univ fun i : Fin 4 => free c (v4 rxdM i) := by
  rw [bigSep_congr fun i _ => free_eq c (v4 rxdM i) (rect4 i).set (set_rxd i)]
  exact cut_buf c cc0_scratch5 (fun i => (rect4 i).set) (slotR_disj inb4) (slotR_cover inb4)

/-- The elements of a slot of the buffer of chunks relayed along `z`, -/
theorem set_rzd (i : Fin 4) : (v4 rzdM i).view.set = (rect4 i).set :=
  (squeeze_set _ (rect4 i) _ _).trans (View.set_slice_whole cc0_scratch6 (rect4 i))
/-- and the buffer cut into its slots. -/
theorem cut_rzd : (someBuf c cc0_scratch6 : sProp 𝕄) ⊣⊢ bigSep Finset.univ fun i : Fin 4 => free c (v4 rzdM i) := by
  rw [bigSep_congr fun i _ => free_eq c (v4 rzdM i) (rect4 i).set (set_rzd i)]
  exact cut_buf c cc0_scratch6 (fun i => (rect4 i).set) (slotR_disj inb4) (slotR_cover inb4)

/-- The elements of a slot of the buffer of the device's own rows, -/
theorem set_loc (i : Fin 2) : (v2 locM i).view.set = (rect2 i).set :=
  (squeeze_set _ (rect2 i) _ _).trans (View.set_slice_whole cc0_scratch7 (rect2 i))
/-- and the buffer cut into its slots. -/
theorem cut_loc : (someBuf c cc0_scratch7 : sProp 𝕄) ⊣⊢ bigSep Finset.univ fun i : Fin 2 => free c (v2 locM i) := by
  rw [bigSep_congr fun i _ => free_eq c (v2 locM i) (rect2 i).set (set_loc i)]
  exact cut_buf c cc0_scratch7 (fun i => (rect2 i).set) (slotR_disj inb2) (slotR_cover inb2)

/-- The elements of a slot of the result's staging buffer, -/
theorem set_out (i : Fin 2) : (v2 outM i).view.set = (rect2 i).set :=
  (squeeze_set _ (rect2 i) _ _).trans (View.set_slice_whole cc0_scratch8 (rect2 i))
/-- and the buffer cut into its slots. -/
theorem cut_out : (someBuf c cc0_scratch8 : sProp 𝕄) ⊣⊢ bigSep Finset.univ fun i : Fin 2 => free c (v2 outM i) := by
  rw [bigSep_congr fun i _ => free_eq c (v2 outM i) (rect2 i).set (set_out i)]
  exact cut_buf c cc0_scratch8 (fun i => (rect2 i).set) (slotR_disj inb2) (slotR_cover inb2)

/-- The places the neighbours write, axis by axis. -/
theorem cut_places : (bigSep Finset.univ fun ℓ : Lk => (free c (dst ℓ) : sProp 𝕄)) = iprop(places c 0 ∗ places c 1 ∗ places c 2) := by
  have h : (Finset.univ : Finset Lk) = (Finset.univ : Finset (Fin 3)).biUnion fun a => Finset.univ.filter fun ℓ : Lk => axis ℓ = a := by ext ℓ; simp
  rw [h, Idealize.SL.BI.bigSep_biUnion_eq _ _ _ (fun a _ b _ hab => Finset.disjoint_filter.mpr fun ℓ _ h1 h2 => hab (h1.symm.trans h2)),
    bigSep_univ_eq_bigSepL [0, 1, 2] (by decide) (by decide)]
  rfl

/-! ## The result's rows -/

/-- Which block of 64 rows of the result, of 32, its chunk `j` is. -/
def rowNo (d : Dev nD) (j : ℕ) : ℕ :=
  if j < 8 then 16 * (d.val / 8) + 8 * (d.val % 2) + (grp j).val
  else if j < 24 then
    (if j % 2 = 0 then 16 * (1 - d.val / 8) + 8 * (d.val % 2) + (grp j).val else 16 * (d.val / 8) + 8 * (1 - d.val % 2) + (grp j).val)
  else 16 * (1 - d.val / 8) + 8 * (1 - d.val % 2) + (grp j).val

/-- Where chunk `j` of the result lies, -/
theorem outOff_row : ∀ (d : Dev nD) (j : Fin 32), outOff d j.val = ![64 * rowNo d j.val, 0] := by decide +kernel
/-- where its rows of the argument lie, -/
theorem locOff_row : ∀ (d : Dev nD) (j : Fin 32), locOff d j.val = ![0, 2048 * (d.val / 4 % 2) + 64 * rowNo d j.val, 0] := by decide +kernel
/-- and where the rows lie that are sent. -/
theorem sendOff_row : ∀ (d : Dev nD) (k : Fin 8), k0_off1 d (BitVec.ofNat 32 (64 * k.val)) = ![0, 2048 * (1 - d.val / 4 % 2) + 64 * rowNo d k.val, 0] := by decide +kernel
/-- No two chunks lie at the same place, -/
theorem rowNo_inj : ∀ (d : Dev nD) (i j : Fin 32), rowNo d i.val = rowNo d j.val → i = j := by decide +kernel
/-- and there is one at each. -/
theorem rowNo_onto : ∀ (d : Dev nD) (r : Fin 32), ∃ j : Fin 32, rowNo d j.val = r.val := by decide +kernel

abbrev outR (j : ℕ) : Rect S2048x2048 := Rect.unit (s := S2048x2048) (outOff c j) S64x2048.size (outOff_inb c j)
def rowSet (j : ℕ) : Finset (Idx ((c : Thread nD τ).loc main_v1)) := (outR c j).set
/-- The elements of a chunk of the result. -/
theorem set_row (j : ℕ) : (outRow c j).view.set = rowSet c j := View.set_slice_whole main_v1 (outR c j)

/-- The result's chunks don't overlap. -/
theorem outR_disj : ∀ i ∈ Finset.range 32, ∀ j ∈ Finset.range 32, i ≠ j → Disjoint (outR c i).set (outR c j).set := by
  intro i hi j hj h
  have hi := Finset.mem_range.mp hi
  have hj := Finset.mem_range.mp hj
  refine Rect.unit_disjoint (s := S2048x2048) (0 : Fin 2) ?_
  have h0 : rowNo c i ≠ rowNo c j := fun e => h (congrArg Fin.val (rowNo_inj c ⟨i, hi⟩ ⟨j, hj⟩ e))
  rw [outOff_row c ⟨i, hi⟩, outOff_row c ⟨j, hj⟩]
  show 64 * rowNo c i + 64 ≤ 64 * rowNo c j ∨ 64 * rowNo c j + 64 ≤ 64 * rowNo c i
  omega

/-- An entry lies in the chunk that its row's number names. -/
theorem outR_mem (j : Fin 32) (x : S2048x2048.Idx) : x ∈ (outR c j.val).set ↔ (x (0 : Fin 2)).val / 64 = rowNo c j.val := by
  have hx : (x (1 : Fin 2)).val < 2048 := (x (1 : Fin 2)).isLt
  rw [Rect.mem_set_unit, outOff_row c j, Fin.forall_fin_two]
  show (64 * rowNo c j.val ≤ (x (0 : Fin 2)).val ∧ (x (0 : Fin 2)).val < 64 * rowNo c j.val + 64) ∧ (0 ≤ (x (1 : Fin 2)).val ∧ (x (1 : Fin 2)).val < 0 + 2048) ↔ _
  omega

/-- Every entry lies in a chunk, -/
theorem outR_onto (x : S2048x2048.Idx) : ∃ j : Fin 32, x ∈ (outR c j.val).set := by
  have hx : (x (0 : Fin 2)).val < 2048 := (x (0 : Fin 2)).isLt
  obtain ⟨j, hj⟩ := rowNo_onto c ⟨(x (0 : Fin 2)).val / 64, by omega⟩
  exact ⟨j, (outR_mem c j x).mpr hj.symm⟩

/-- so the chunks are the result. -/
theorem rowSet_cover : (Finset.range 32).biUnion (rowSet c) = Finset.univ := by
  ext x
  simp only [Finset.mem_biUnion, Finset.mem_univ, iff_true]
  obtain ⟨j, hj⟩ := outR_onto c x
  exact ⟨j.val, Finset.mem_range.mpr j.isLt, hj⟩

/-- The result's buffer, whole and row by row. -/
abbrev resAt (q : PosShare TreeShare) (f : Buf (Elt F) ((c : Thread nD τ).loc main_v1)) : sProp 𝕄 := ((c : Thread nD τ).loc main_v1) ↦{q} f
abbrev rowAt (q : PosShare TreeShare) (j : ℕ) (f : Buf (Elt F) ((c : Thread nD τ).loc main_v1)) : sProp 𝕄 := ((c : Thread nD τ).loc main_v1) ↦[rowSet c j]{q} f

/-- A chunk of the result, whatever it holds; -/
theorem free_row (j : ℕ) (f : Buf (Elt F) ((c : Thread nD τ).loc main_v1)) : rowAt c fullShare j f ⊢ (free c (outRow c j) : sProp 𝕄) := by
  have e : rowAt c fullShare j f = ((outRow c j).view.loc (c : Thread nD τ) ↦[(outRow c j).view.set]{fullShare} f : sProp 𝕄) := by rw [set_row]
  rw [e]; unfold free
  iintro H; iexists _; iexact H
/-- and one that holds a value. -/
theorem held_row (j : ℕ) (X : CF F) : (held c (outRow c j) fullShare X : sProp 𝕄) = rowAt c fullShare j ((outRow c j).view.rep X) := by
  unfold held; rw [set_row]

/-- The result's buffer is its rows, none written yet. -/
theorem rows_split (f : Buf (Elt F) ((c : Thread nD τ).loc main_v1)) : resAt c fullShare f ⊢ (restOut c 0 : sProp 𝕄) := by
  have e : resAt c fullShare f = (bigSep (Finset.range 32) fun j => rowAt c fullShare j f : sProp 𝕄) := by
    refine Eq.trans ?_ (pointsTo_biUnion (Finset.range 32) (rowSet c) (outR_disj c))
    rw [rowSet_cover]
  rw [e]
  unfold restOut
  rw [← Finset.range_eq_Ico]
  exact bigSep_mono fun j _ => free_row c j f

/-- Contents of the result's buffer that read, row by row, the result's chunks. -/
def isOut (g : Buf (Elt F) ((c : Thread nD τ).loc main_v1)) : Prop := ∀ j < 32, (outRow c j).view.read (Elt F) g = outv m c j

/-- The rows, all written, are the result's buffer holding them. -/
theorem rows_join (f₀ : Buf (Elt F) ((c : Thread nD τ).loc main_v1)) : (bigSep (Finset.range 32) fun j => held c (outRow c j) fullShare (outv m c j))
    ⊢ (iprop(∃ g : Buf (Elt F) ((c : Thread nD τ).loc main_v1), ⌜isOut m c g⌝ ∗ resAt c fullShare g) : sProp 𝕄) := by
  have hg : ∀ g : Buf (Elt F) ((c : Thread nD τ).loc main_v1), (∀ t ∈ Finset.range 32, ∀ i ∈ rowSet c t, g i = (outRow c t).view.rep (outv m c t) i) → isOut m c g := fun g h j hj => by
    refine Eq.trans (View.read_congr (v := (outRow c j).view) fun i hi => ?_) (View.read_rep (Val := Elt F) (outRow c j).view (outv m c j))
    exact h j (Finset.mem_range.mpr hj) i ((set_row c j) ▸ hi)
  have h := pointsTo_biUnion_join (Ix := Unit) (Name := ℕ) (U := UU) (Lvl := ℕ) (q := fullShare) (Finset.range 32) (rowSet c) (fun j => (outRow c j).view.rep (outv m c j)) f₀ (outR_disj c)
  rw [rowSet_cover] at h
  rw [bigSep_congr fun j _ => held_row c j (outv m c j)]
  refine h.trans ?_
  iintro ⟨%g, %h, H⟩
  iexists g
  isplitr
  · ipureintro; exact hg g h
  iexact H

/-! ## The argument's shares -/

/-- The argument in four shares: two for the staging slots, two for the local ones. -/
theorem xs_split : xs m c fullShare ⊣⊢ (iprop((xs m c (qSt 0) ∗ xs m c (qSt 1)) ∗ (xs m c (qLo 0) ∗ xs m c (qLo 1))) : sProp 𝕄) := by
  have h (q : PosShare TreeShare) : xs m c q ⊣⊢ (iprop(xs m c q.left ∗ xs m c q.right) : sProp 𝕄) := pointsTo_share (PosShare.mem_left_op_right q)
  have h0 := h fullShare
  have h1 := h fullShare.left
  have h2 := h fullShare.right
  rw [show qSt 0 = fullShare.left.left from rfl, show qSt 1 = fullShare.left.right from rfl, show qLo 0 = fullShare.right.left from rfl, show qLo 1 = fullShare.right.right from rfl]
  constructor
  · iintro H
    ihave H := h0.1 $$ H
    icases H with ⟨Ha, Hb⟩
    isplitl [Ha]
    · iapply h1.1 $$ Ha
    · iapply h2.1 $$ Hb
  · iintro ⟨Ha, Hb⟩
    iapply h0.2
    isplitl [Ha]
    · iapply h1.2 $$ Ha
    · iapply h2.2 $$ Hb

end Cert.K

end
-- ==== Proof.Ends.lean ====
/-
# `Ends`: what a core starts with and what it hands back

Between the launch's view of a core (whole buffers, semaphores by number) and the body's (chunks, shares, links).
-/
module

public import proofs.«01_k».proof.Proof.Slots

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × CI → ℕ) (c : Dev nD)

/-! ## The semaphores of the copies within a device -/

abbrev LI : Type := Fin 2 ⊕ Fin 2 ⊕ Fin 2
def locSem : LI → SemLoc sig
  | .inl i => .dma (s2 cc0_scratch9 i)
  | .inr (.inl i) => .dma (s2 cc0_scratch10 i)
  | .inr (.inr i) => .dma (s2 cc0_scratch11 i)
def locals : sProp 𝕄 := bigSep Finset.univ fun i : LI => semVal ((c : Thread nD τ), locSem i) 0

/-- The counters of the copies within a device, written out. -/
theorem locals_eq : (locals c : sProp 𝕄) = iprop((semVal ((c : Thread nD τ), SemLoc.dma (s2 cc0_scratch9 0)) 0 ∗ semVal ((c : Thread nD τ), SemLoc.dma (s2 cc0_scratch9 1)) 0)
    ∗ (semVal ((c : Thread nD τ), SemLoc.dma (s2 cc0_scratch10 0)) 0 ∗ semVal ((c : Thread nD τ), SemLoc.dma (s2 cc0_scratch10 1)) 0)
    ∗ (semVal ((c : Thread nD τ), SemLoc.dma (s2 cc0_scratch11 0)) 0 ∗ semVal ((c : Thread nD τ), SemLoc.dma (s2 cc0_scratch11 1)) 0)) := by
  unfold locals
  rw [bigSep_univ_sum, bigSep_univ_sum, bigSep_fin_two, bigSep_fin_two, bigSep_fin_two]
  rfl

/-! ## What a core starts with -/

def payToks : sProp 𝕄 :=
  iprop((bigSep Finset.univ fun d : Fin 3 => dutyTok ER (barCell (nbr d c)) 0 d)
    ∗ (bigSep Finset.univ fun ℓ : Lk => dutyTok ER (sendCell ℓ c) 0 0) ∗ (bigSep Finset.univ fun ℓ : Lk => dutyTok ER (recvCell ℓ (peer ℓ c)) 0 0))
def positions : sProp 𝕄 :=
  iprop(atPos ER (barCell c) 0 ∅ 0 ∗ (bigSep Finset.univ fun ℓ : Lk => atPos ER (sendCell ℓ c) 0 ∅ 0) ∗ (bigSep Finset.univ fun ℓ : Lk => atPos ER (recvCell ℓ c) 0 ∅ 0))
/-- The part of a core's start that is its alone. -/
def linear : sProp 𝕄 := iprop(positions c ∗ payToks c ∗ locals c)
def credits : sProp 𝕄 :=
  iprop(cred (tallyAt (barCell c) () 3) ∗ bigSep Finset.univ fun ℓ : Lk => cred (tallyAt (recvCell ℓ c) () (Nl ℓ)))
def scratch : sProp 𝕄 :=
  iprop(someBuf c cc0_scratch0 ∗ someBuf c cc0_scratch1 ∗ someBuf c cc0_scratch2 ∗ someBuf c cc0_scratch3 ∗ someBuf c cc0_scratch4 ∗ someBuf c cc0_scratch5
    ∗ someBuf c cc0_scratch6 ∗ someBuf c cc0_scratch7 ∗ someBuf c cc0_scratch8)

/-- A product over three indices, written out. -/
theorem fin3 (Φ : Fin 3 → sProp 𝕄) : bigSep Finset.univ Φ = iprop(Φ 0 ∗ Φ 1 ∗ Φ 2) := bigSep_univ_eq_bigSepL [0, 1, 2] (by decide) (by decide) Φ

/-- The scratch buffers cut into their slots, the places for the neighbours set aside. -/
theorem slots_in : scratch c ⊢ (iprop((free c (v2 stgM 0) ∗ free c (v2 stgM 1)) ∗ (free c (v2 locM 0) ∗ free c (v2 locM 1)) ∗ (free c (v2 outM 0) ∗ free c (v2 outM 1))
    ∗ (bigSep Finset.univ fun k : Fin 8 => free c (v8 sndM k)) ∗ (places c 0 ∗ places c 1 ∗ places c 2)) : sProp 𝕄) := by
  have h0 := (cut_stg (F := F) c).1
  have h7 := (cut_loc (F := F) c).1
  have h8 := (cut_out (F := F) c).1
  rw [bigSep_fin_two] at h0 h7 h8
  have hp : iprop((bigSep Finset.univ fun k : Fin 8 => free c (v8 ryM k)) ∗ (bigSep Finset.univ fun k : Fin 8 => free c (v8 rxM k)) ∗ (bigSep Finset.univ fun k : Fin 8 => free c (v8 rzM k))
      ∗ (bigSep Finset.univ fun k : Fin 4 => free c (v4 rxdM k)) ∗ (bigSep Finset.univ fun k : Fin 4 => free c (v4 rzdM k))) ⊢ (iprop(places c 0 ∗ places c 1 ∗ places c 2) : sProp 𝕄) := by
    rw [← cut_places, lk_split]; exact Entails.refl _
  unfold scratch
  iintro ⟨H0, H1, H2, H3, H4, H5, H6, H7, H8⟩
  isplitl [H0]; · iapply h0 $$ H0
  isplitl [H7]; · iapply h7 $$ H7
  isplitl [H8]; · iapply h8 $$ H8
  isplitl [H1]; · iapply (cut_snd c).1 $$ H1
  iapply hp
  isplitl [H2]; · iapply (cut_ry c).1 $$ H2
  isplitl [H3]; · iapply (cut_rx c).1 $$ H3
  isplitl [H4]; · iapply (cut_rz c).1 $$ H4
  isplitl [H5]; · iapply (cut_rxd c).1 $$ H5
  iapply (cut_rzd c).1 $$ H6

/-- From what the launch hands a core to what its body starts from. -/
theorem enter (f : Buf (Elt F) ((c : Thread nD τ).loc main_v1)) :
    iprop(linear c ∗ credits c ∗ xs m c fullShare ∗ resAt c fullShare f ∗ scratch c ∗ gamH m c ∗ OW c (O₀ c)) ⊢ iprop(before m c ∗ supply m c) := by
  have hs : iprop((bigSep Finset.univ fun ℓ : Lk => atPos ER (recvCell ℓ c) 0 ∅ 0) ∗ bigSep Finset.univ fun ℓ : Lk => cred (tallyAt (recvCell ℓ c) () (Nl ℓ)))
      ⊢ (bigSep Finset.univ fun ℓ : Lk => toRecv c ℓ : sProp 𝕄) := by rw [← bigSep_sep']; exact Entails.refl _
  have hd : iprop((bigSep Finset.univ fun ℓ : Lk => dutyTok ER (sendCell ℓ c) 0 0) ∗ bigSep Finset.univ fun ℓ : Lk => dutyTok ER (recvCell ℓ (peer ℓ c)) 0 0)
      ⊢ (bigSep Finset.univ fun ℓ : Lk => iprop(dutyTok ER (sendCell ℓ c) 0 0 ∗ dutyTok ER (recvCell ℓ (peer ℓ c)) 0 0) : sProp 𝕄) := by rw [← bigSep_sep']
  have hi0 (i : Fin 2) : iprop(free c (v2 stgM i) ∗ semVal ((c : Thread nD τ), SemLoc.dma (s2 cc0_scratch9 i)) 0 ∗ xs m c (qSt i)) ⊢ idleSt m c i := Entails.refl _
  have hi1 (i : Fin 2) : iprop(free c (v2 locM i) ∗ semVal ((c : Thread nD τ), SemLoc.dma (s2 cc0_scratch10 i)) 0 ∗ xs m c (qLo i)) ⊢ idleLo m c i := Entails.refl _
  have hi2 (i : Fin 2) : iprop(free c (v2 outM i) ∗ semVal ((c : Thread nD τ), SemLoc.dma (s2 cc0_scratch11 i)) 0) ⊢ (idleOut c i : sProp 𝕄) := Entails.refl _
  have hb : bigSep Finset.univ (fun d : Fin 3 => dutyTok ER (barCell (nbr d c)) 0 d) ⊢ (iprop(dutyTok ER (barCell (devY c)) 0 0 ∗ dutyTok ER (barCell (devX c)) 0 1 ∗ dutyTok ER (barCell (devZ c)) 0 2) : sProp 𝕄) := by
    rw [fin3]; exact Entails.refl _
  rw [show before m c = iprop((idleSt m c 0 ∗ idleSt m c 1 ∗ idleLo m c 0 ∗ idleLo m c 1)
    ∗ (dutyTok ER (barCell (devY c)) 0 0 ∗ dutyTok ER (barCell (devX c)) 0 1 ∗ dutyTok ER (barCell (devZ c)) 0 2)
    ∗ (places c 0 ∗ places c 1 ∗ places c 2)
    ∗ atPos ER (barCell c) 0 ∅ 0 ∗ cred (tallyAt (barCell c) () 3) ∗ OW c (O₀ c)) from rfl,
    show supply m c = iprop((bigSep Finset.univ fun ℓ : Lk => iprop(dutyTok ER (sendCell ℓ c) 0 0 ∗ dutyTok ER (recvCell ℓ (peer ℓ c)) 0 0))
    ∗ (bigSep Finset.univ fun ℓ : Lk => toRecv c ℓ)
    ∗ (bigSep Finset.univ fun ℓ : Lk => atPos ER (sendCell ℓ c) 0 ∅ 0)
    ∗ (bigSep Finset.univ fun k : Fin 8 => free c (v8 sndM k))
    ∗ (idleOut c 0 ∗ idleOut c 1 ∗ restOut c 0 ∗ gamH m c)) from rfl]
  unfold linear positions payToks credits
  rw [locals_eq]
  iintro ⟨⟨⟨Hab, Has, Har⟩, ⟨Htb, Hts, Htr⟩, ⟨Ha0, Ha1⟩, ⟨Hb0, Hb1⟩, ⟨Hc0, Hc1⟩⟩, ⟨Hcb, Hcr⟩, Hx, Hf, Hsc, Hg, HO⟩
  ihave Hx := (xs_split m c).1 $$ Hx
  icases Hx with ⟨⟨Hx0, Hx1⟩, Hy0, Hy1⟩
  ihave Hsc := (slots_in c) $$ Hsc
  icases Hsc with ⟨⟨Hst0, Hst1⟩, ⟨Hlo0, Hlo1⟩, ⟨Hou0, Hou1⟩, Hsn, Hpl⟩
  isplitl [Hst0 Ha0 Hx0 Hst1 Ha1 Hx1 Hlo0 Hb0 Hy0 Hlo1 Hb1 Hy1 Htb Hpl Hab Hcb HO]
  · isplitl [Hst0 Ha0 Hx0 Hst1 Ha1 Hx1 Hlo0 Hb0 Hy0 Hlo1 Hb1 Hy1]
    · isplitl [Hst0 Ha0 Hx0]
      · iapply (hi0 0); isplitl [Hst0]; · iexact Hst0
        isplitl [Ha0] <;> iassumption
      isplitl [Hst1 Ha1 Hx1]
      · iapply (hi0 1); isplitl [Hst1]; · iexact Hst1
        isplitl [Ha1] <;> iassumption
      isplitl [Hlo0 Hb0 Hy0]
      · iapply (hi1 0); isplitl [Hlo0]; · iexact Hlo0
        isplitl [Hb0] <;> iassumption
      iapply (hi1 1); isplitl [Hlo1]; · iexact Hlo1
      isplitl [Hb1] <;> iassumption
    isplitl [Htb]; · iapply hb $$ Htb
    isplitl [Hpl]; · iexact Hpl
    isplitl [Hab]; · iexact Hab
    isplitl [Hcb] <;> iassumption
  isplitl [Hts Htr]
  · iapply hd; isplitl [Hts] <;> iassumption
  isplitl [Har Hcr]
  · iapply hs; isplitl [Har] <;> iassumption
  isplitl [Has]; · iexact Has
  isplitl [Hsn]; · iexact Hsn
  isplitl [Hou0 Hc0]
  · iapply (hi2 0); isplitl [Hou0] <;> iassumption
  isplitl [Hou1 Hc1]
  · iapply (hi2 1); isplitl [Hou1] <;> iassumption
  isplitl [Hf]; · iapply (rows_split c f) $$ Hf
  iexact Hg

/-! ## What it ends with -/

/-- The chunks lent and kept, joined. -/
theorem join_y (k : Fin 8) : iprop(held c (v8 ryM k) fullShare.left (ly m k c) ∗ held c (v8 ryM k) fullShare.right.left (ly m k c) ∗ held c (v8 ryM k) fullShare.right.right (ly m k c))
    ⊢ (free c (v8 ryM k) : sProp 𝕄) := by
  iintro ⟨H1, H2, H3⟩
  iapply (held_free c (v8 ryM k) (ly m k c))
  iapply (held_halves c (v8 ryM k) fullShare (ly m k c)).2
  isplitl [H1]; · iexact H1
  iapply (held_halves c (v8 ryM k) fullShare.right (ly m k c)).2
  isplitl [H2] <;> iassumption

/-- The two halves of a chunk, joined. -/
theorem join2 (v : Memref sig .tc .vmem S64x2048 .bf16) (X : CB F) : iprop(held c v fullShare.left X ∗ held c v fullShare.right X) ⊢ (free c v : sProp 𝕄) := by
  iintro H
  iapply (held_free c v X)
  iapply (held_halves c v fullShare X).2 $$ H

/-- A relay is along `z` in the first four steps, along `x` in the last four. -/
theorem rl_cases : ∀ k : Fin 8, (∃ i : Fin 4, k = lo i ∧ rl k = .xd i ∧ k.val < 4) ∨ (∃ i : Fin 4, k = hi i ∧ rl k = .zd i ∧ ¬ k.val < 4) := by decide

/-- What a relaying step lent, kept and read makes up its two slots again. -/
theorem join_xz (k : Fin 8) : iprop(held c (src (rl k)) (shr (rl k)) (sentv m (rl k) c) ∗ keep m c k ∗ held c (v8 rxM k) fullShare.right (lx m k c) ∗ held c (v8 rzM k) fullShare.right (lz m k c))
    ⊢ (iprop(free c (v8 rxM k) ∗ free c (v8 rzM k)) : sProp 𝕄) := by
  unfold keep
  rcases rl_cases k with ⟨i, rfl, hr, hk⟩ | ⟨i, rfl, hr, hk⟩
  · rw [hr, if_pos hk, show held c (src (.xd i)) (shr (.xd i)) (sentv m (.xd i) c) = held c (v8 rzM (lo i)) fullShare.left (lz m (lo i) c) from rfl]
    iintro ⟨H1, H2, H3, H4⟩
    isplitl [H2 H3]
    · iapply (join2 c (v8 rxM (lo i)) (lx m (lo i) c)); isplitl [H2] <;> iassumption
    iapply (join2 c (v8 rzM (lo i)) (lz m (lo i) c)); isplitl [H1] <;> iassumption
  · rw [hr, if_neg hk, show held c (src (.zd i)) (shr (.zd i)) (sentv m (.zd i) c) = held c (v8 rxM (hi i)) fullShare.left (lx m (hi i) c) from rfl]
    iintro ⟨H1, H2, H3, H4⟩
    isplitl [H1 H3]
    · iapply (join2 c (v8 rxM (hi i)) (lx m (hi i) c)); isplitl [H1] <;> iassumption
    iapply (join2 c (v8 rzM (hi i)) (lz m (hi i) c)); isplitl [H2] <;> iassumption

/-- Every cell of the exchange but the barrier's, at zero. -/
def zeros : sProp 𝕄 := iprop((bigSep Finset.univ fun ℓ : Lk => semVal (sendCell ℓ c) 0) ∗ (bigSep Finset.univ fun ℓ : Lk => semVal (recvCell ℓ c) 0))

/-- What the links leave at the end: their counters at zero, their buffers whole. -/
theorem links_out : iprop(((bigSep Finset.univ fun k => AB' m c k) ∗ (bigSep Finset.univ fun k => AC' m c k) ∗ (bigSep Finset.univ fun k => AD m c k) ∗ (bigSep Finset.univ fun k => AE m c k))
      ∗ (bigSep Finset.univ fun ℓ : Lk => back m c ℓ))
    ⊢ (iprop(zeros c ∗ someBuf c cc0_scratch1 ∗ someBuf c cc0_scratch2 ∗ someBuf c cc0_scratch3 ∗ someBuf c cc0_scratch4 ∗ someBuf c cc0_scratch5 ∗ someBuf c cc0_scratch6) : sProp 𝕄) := by
  have hy : iprop((bigSep Finset.univ fun k => held c (src (.x k)) (shr (.x k)) (sentv m (.x k) c)) ∗ (bigSep Finset.univ fun k => held c (src (.z k)) (shr (.z k)) (sentv m (.z k) c))
      ∗ (bigSep Finset.univ fun k => held c (v8 ryM k) fullShare.right.right (ly m k c))) ⊢ (bigSep Finset.univ fun k : Fin 8 => free c (v8 ryM k) : sProp 𝕄) := by
    rw [← bigSep_sep', ← bigSep_sep']
    exact bigSep_mono fun k _ => join_y m c k
  have hxz : iprop((bigSep Finset.univ fun k => held c (src (rl k)) (shr (rl k)) (sentv m (rl k) c)) ∗ (bigSep Finset.univ fun k => keep m c k)
      ∗ (bigSep Finset.univ fun k => held c (v8 rxM k) fullShare.right (lx m k c)) ∗ (bigSep Finset.univ fun k => held c (v8 rzM k) fullShare.right (lz m k c)))
      ⊢ (iprop((bigSep Finset.univ fun k : Fin 8 => free c (v8 rxM k)) ∗ (bigSep Finset.univ fun k : Fin 8 => free c (v8 rzM k))) : sProp 𝕄) := by
    rw [← bigSep_sep', ← bigSep_sep', ← bigSep_sep', ← bigSep_sep']
    exact bigSep_mono fun k _ => join_xz m c k
  have hsn : (bigSep Finset.univ fun k : Fin 8 => held c (src (.y k)) (shr (.y k)) (sentv m (.y k) c)) ⊢ (bigSep Finset.univ fun k : Fin 8 => free c (v8 sndM k) : sProp 𝕄) :=
    bigSep_mono fun k _ => held_free c (v8 sndM k) (sy m k c)
  have hxd : (bigSep Finset.univ fun k : Fin 4 => held c (v4 rxdM k) fullShare (lz m (lo k) (devX c))) ⊢ (bigSep Finset.univ fun k : Fin 4 => free c (v4 rxdM k) : sProp 𝕄) :=
    bigSep_mono fun k _ => held_free c (v4 rxdM k) _
  have hzd : (bigSep Finset.univ fun k : Fin 4 => held c (v4 rzdM k) fullShare (lx m (hi k) (devZ c))) ⊢ (bigSep Finset.univ fun k : Fin 4 => free c (v4 rzdM k) : sProp 𝕄) :=
    bigSep_mono fun k _ => held_free c (v4 rzdM k) _
  have hr : iprop((bigSep Finset.univ fun k : Fin 8 => semVal (recvCell (.y k) c) 0) ∗ (bigSep Finset.univ fun k : Fin 8 => semVal (recvCell (.x k) c) 0)
      ∗ (bigSep Finset.univ fun k : Fin 8 => semVal (recvCell (.z k) c) 0) ∗ (bigSep Finset.univ fun k : Fin 4 => semVal (recvCell (.xd k) c) 0)
      ∗ (bigSep Finset.univ fun k : Fin 4 => semVal (recvCell (.zd k) c) 0)) ⊢ (bigSep Finset.univ fun ℓ : Lk => semVal (recvCell ℓ c) 0 : sProp 𝕄) := by
    rw [lk_split (fun ℓ : Lk => (semVal (recvCell ℓ c) 0 : sProp 𝕄))]
  have hB : (bigSep Finset.univ fun ℓ : Lk => back m c ℓ) ⊢ iprop(((bigSep Finset.univ fun k => held c (src (.y k)) (shr (.y k)) (sentv m (.y k) c))
        ∗ (bigSep Finset.univ fun k => held c (src (.x k)) (shr (.x k)) (sentv m (.x k) c)) ∗ (bigSep Finset.univ fun k => held c (src (.z k)) (shr (.z k)) (sentv m (.z k) c))
        ∗ (bigSep Finset.univ fun k => held c (src (rl k)) (shr (rl k)) (sentv m (rl k) c))) ∗ bigSep Finset.univ fun ℓ : Lk => semVal (sendCell ℓ c) 0) := by
    unfold back
    rw [bigSep_sep', lk_split (fun ℓ : Lk => held c (src ℓ) (shr ℓ) (sentv m ℓ c)), rl_split (fun ℓ : Lk => held c (src ℓ) (shr ℓ) (sentv m ℓ c))]
  have hAB : (bigSep Finset.univ fun k => AB' m c k) ⊢ iprop((bigSep Finset.univ fun k : Fin 8 => semVal (recvCell (.y k) c) 0) ∗ (bigSep Finset.univ fun k => held c (v8 ryM k) fullShare.right.right (ly m k c))) := by
    unfold AB'; rw [bigSep_sep']
  have hAC : (bigSep Finset.univ fun k => AC' m c k) ⊢ iprop((bigSep Finset.univ fun k : Fin 8 => semVal (recvCell (.x k) c) 0) ∗ (bigSep Finset.univ fun k : Fin 8 => semVal (recvCell (.z k) c) 0)
      ∗ (bigSep Finset.univ fun k => keep m c k) ∗ (bigSep Finset.univ fun k => held c (v8 rxM k) fullShare.right (lx m k c)) ∗ (bigSep Finset.univ fun k => held c (v8 rzM k) fullShare.right (lz m k c))) := by
    unfold AC'; rw [bigSep_sep', bigSep_sep', bigSep_sep', bigSep_sep']
  have hAD : (bigSep Finset.univ fun k => AD m c k) ⊢ iprop((bigSep Finset.univ fun k : Fin 4 => semVal (recvCell (.xd k) c) 0) ∗ (bigSep Finset.univ fun k : Fin 4 => held c (v4 rxdM k) fullShare (lz m (lo k) (devX c)))) := by
    unfold AD; rw [bigSep_sep']
  have hAE : (bigSep Finset.univ fun k => AE m c k) ⊢ iprop((bigSep Finset.univ fun k : Fin 4 => semVal (recvCell (.zd k) c) 0) ∗ (bigSep Finset.univ fun k : Fin 4 => held c (v4 rzdM k) fullShare (lx m (hi k) (devZ c)))) := by
    unfold AE; rw [bigSep_sep']
  iintro ⟨⟨HAB, HAC, HAD, HAE⟩, HB⟩
  ihave HAB := hAB $$ HAB
  icases HAB with ⟨Hry, Hy3⟩
  ihave HAC := hAC $$ HAC
  icases HAC with ⟨Hrx, Hrz, Hk, Hx2, Hz2⟩
  ihave HAD := hAD $$ HAD
  icases HAD with ⟨Hrxd, Hxd⟩
  ihave HAE := hAE $$ HAE
  icases HAE with ⟨Hrzd, Hzd⟩
  ihave HB := hB $$ HB
  icases HB with ⟨⟨Hb1, Hb2, Hb3, Hb4⟩, Hs⟩
  ihave Hxz := hxz $$ [Hb4 Hk Hx2 Hz2]
  · isplitl [Hb4]; · iexact Hb4
    isplitl [Hk]; · iexact Hk
    isplitl [Hx2] <;> iassumption
  icases Hxz with ⟨Hx, Hz⟩
  isplitl [Hs Hry Hrx Hrz Hrxd Hrzd]
  · unfold zeros
    isplitl [Hs]; · iexact Hs
    iapply hr
    isplitl [Hry]; · iexact Hry
    isplitl [Hrx]; · iexact Hrx
    isplitl [Hrz]; · iexact Hrz
    isplitl [Hrxd] <;> iassumption
  isplitl [Hb1]
  · iapply (cut_snd c).2; iapply hsn $$ Hb1
  isplitl [Hb2 Hb3 Hy3]
  · iapply (cut_ry c).2; iapply hy
    isplitl [Hb2]; · iexact Hb2
    isplitl [Hb3] <;> iassumption
  isplitl [Hx]; · iapply (cut_rx c).2 $$ Hx
  isplitl [Hz]; · iapply (cut_rz c).2 $$ Hz
  isplitl [Hxd]; · iapply (cut_rxd c).2; iapply hxd $$ Hxd
  iapply (cut_rzd c).2; iapply hzd $$ Hzd

/-- What a core hands back: the argument, the result written, its buffers and semaphores. -/
def final : sProp 𝕄 :=
  iprop((xs m c fullShare ∗ ∃ g : Buf (Elt F) ((c : Thread nD τ).loc main_v1), ⌜isOut m c g⌝ ∗ resAt c fullShare g) ∗ semVal (barCell c) 0 ∗ (locals c ∗ zeros c) ∗ scratch c)

/-- At the end of the body all is paid, and the buffers and counters are handed back. -/
theorem leave : finished m c ⊢ iprop(OW c (owe (todo 32) c) ∗ gamH m c ∗ final m c) := by
  have hi0 (i : Fin 2) : idleSt m c i ⊢ iprop(free c (v2 stgM i) ∗ semVal ((c : Thread nD τ), SemLoc.dma (s2 cc0_scratch9 i)) 0 ∗ xs m c (qSt i)) := Entails.refl _
  have hi1 (i : Fin 2) : idleLo m c i ⊢ iprop(free c (v2 locM i) ∗ semVal ((c : Thread nD τ), SemLoc.dma (s2 cc0_scratch10 i)) 0 ∗ xs m c (qLo i)) := Entails.refl _
  have hi2 (i : Fin 2) : (idleOut c i : sProp 𝕄) ⊢ iprop(free c (v2 outM i) ∗ semVal ((c : Thread nD τ), SemLoc.dma (s2 cc0_scratch11 i)) 0) := Entails.refl _
  have h0 : iprop(free c (v2 stgM 0) ∗ free c (v2 stgM 1)) ⊢ (someBuf c cc0_scratch0 : sProp 𝕄) := by have h := (cut_stg (F := F) c).2; rwa [bigSep_fin_two] at h
  have h7 : iprop(free c (v2 locM 0) ∗ free c (v2 locM 1)) ⊢ (someBuf c cc0_scratch7 : sProp 𝕄) := by have h := (cut_loc (F := F) c).2; rwa [bigSep_fin_two] at h
  have h8 : iprop(free c (v2 outM 0) ∗ free c (v2 outM 1)) ⊢ (someBuf c cc0_scratch8 : sProp 𝕄) := by have h := (cut_out (F := F) c).2; rwa [bigSep_fin_two] at h
  have hL := links_out m c
  have hrows := rows_join m c (m ((c : Thread nD τ).loc main_v1))
  unfold finished
  rw [show slotSt m c 8 = idleSt m c 0 from rfl, show slotSt m c 9 = idleSt m c 1 from rfl, show slotLo m c 32 = idleLo m c 0 from rfl, show slotLo m c 33 = idleLo m c 1 from rfl,
    show (idleOut c (par 30) : sProp 𝕄) = idleOut c 0 from rfl, show (idleOut c (par 31) : sProp 𝕄) = idleOut c 1 from rfl]
  iintro ⟨⟨HO, Hbar, Hg⟩, ⟨Hs0, Hs1, Hl0, Hl1, Ho0, Ho1⟩, Hrows, Hlinks⟩
  ihave Hs0 := (hi0 0) $$ Hs0
  icases Hs0 with ⟨Hst0, Ha0, Hx0⟩
  ihave Hs1 := (hi0 1) $$ Hs1
  icases Hs1 with ⟨Hst1, Ha1, Hx1⟩
  ihave Hl0 := (hi1 0) $$ Hl0
  icases Hl0 with ⟨Hlo0, Hb0, Hy0⟩
  ihave Hl1 := (hi1 1) $$ Hl1
  icases Hl1 with ⟨Hlo1, Hb1, Hy1⟩
  ihave Ho0 := (hi2 0) $$ Ho0
  icases Ho0 with ⟨Hou0, Hc0⟩
  ihave Ho1 := (hi2 1) $$ Ho1
  icases Ho1 with ⟨Hou1, Hc1⟩
  ihave Hlinks := hL $$ Hlinks
  icases Hlinks with ⟨Hz, H1, H2, H3, H4, H5, H6⟩
  isplitl [HO]; · iexact HO
  isplitl [Hg]; · iexact Hg
  unfold final
  isplitl [Hx0 Hx1 Hy0 Hy1 Hrows]
  · isplitl [Hx0 Hx1 Hy0 Hy1]
    · iapply (xs_split m c).2
      isplitl [Hx0 Hx1]
      · isplitl [Hx0] <;> iassumption
      isplitl [Hy0] <;> iassumption
    iapply hrows $$ Hrows
  isplitl [Hbar]; · iexact Hbar
  isplitl [Ha0 Ha1 Hb0 Hb1 Hc0 Hc1 Hz]
  · isplitl [Ha0 Ha1 Hb0 Hb1 Hc0 Hc1]
    · rw [locals_eq]
      isplitl [Ha0 Ha1]
      · isplitl [Ha0] <;> iassumption
      isplitl [Hb0 Hb1]
      · isplitl [Hb0] <;> iassumption
      isplitl [Hc0] <;> iassumption
    iexact Hz
  unfold scratch
  isplitl [Hst0 Hst1]
  · iapply h0; isplitl [Hst0] <;> iassumption
  isplitl [H1]; · iexact H1
  isplitl [H2]; · iexact H2
  isplitl [H3]; · iexact H3
  isplitl [H4]; · iexact H4
  isplitl [H5]; · iexact H5
  isplitl [H6]; · iexact H6
  isplitl [Hlo0 Hlo1]
  · iapply h7; isplitl [Hlo0] <;> iassumption
  iapply h8; isplitl [Hou0] <;> iassumption

end Cert.K

end
-- ==== Proof.Funds.lean ====
/-
# `Funds`: the cells, the duties and the credits dealt at launch

The launch deals every device the rounds of its own cells and the duties on them; the duties go to the devices that
pay them, the cells' invariants to all.
-/
module

public import proofs.«01_k».proof.Proof.Ends

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## The semaphores a core owns -/

/-- The kernel's own semaphores: those of the local copies, those of the links. -/
abbrev OI : Type := LI ⊕ (Lk × Bool)
def osem : OI → SemLoc sig
  | .inl i => locSem i
  | .inr p => csem (.inr p)

/-- The local copies' semaphores have small numbers, none of them the barrier's, -/
theorem locNo : ∀ i : LI, 0 < semNo (locSem i) ∧ semNo (locSem i) < 8 := by decide
/-- no two the same; -/
theorem locNo_inj : ∀ i j : LI, semNo (locSem i) = semNo (locSem j) → i = j := by decide
/-- the links' semaphores have larger ones. -/
theorem linkNo : ∀ p : Lk × Bool, 8 ≤ ciNo (.inr p) := by decide
/-- The kernel's own semaphores are different ones. -/
theorem osem_inj : Function.Injective osem := by
  rintro (i | p) (j | p') h
  · exact congrArg Sum.inl (locNo_inj i j (congrArg semNo h))
  · have h : semNo (locSem i) = ciNo (.inr p') := (congrArg semNo h).trans (semNo_csem _)
    have := (locNo i).2; have := linkNo p'; omega
  · have h : ciNo (.inr p) = semNo (locSem j) := (semNo_csem _).symm.trans (congrArg semNo h)
    have := (locNo j).2; have := linkNo p; omega
  · exact congrArg Sum.inr (Sum.inr.inj (csem_inj h))

/-- A product over the links' cells: departures, arrivals. -/
theorem lb_split (Φ : Lk × Bool → sProp 𝕄) : bigSep Finset.univ Φ
    = iprop((bigSep Finset.univ fun ℓ => Φ (ℓ, false)) ∗ (bigSep Finset.univ fun ℓ => Φ (ℓ, true))) := by
  rw [bigSep_univ_prod, ← bigSep_sep']
  exact bigSep_congr fun ℓ _ => bigSep_univ_eq_bigSepL [false, true] (by decide) (by decide) fun b => Φ (ℓ, b)
/-- A product over a device's cells: the barrier's, the departures, the arrivals. -/
theorem ci_split (Φ : CI → sProp 𝕄) : bigSep Finset.univ Φ
    = iprop(Φ bar ∗ (bigSep Finset.univ fun ℓ => Φ (dep ℓ)) ∗ (bigSep Finset.univ fun ℓ => Φ (arr ℓ))) := by
  rw [bigSep_univ_sum, lb_split, bigSep_univ_eq_bigSepL [()] (by decide) (by decide)]
  rfl

/-- The own semaphores at zero: the local copies' and the links'. -/
theorem ownSems0_eq (c : Dev nD) : (Pipeline.ownSems0 (Ix := Unit) (Name := ℕ) (U := UU) (Lvl := ℕ) (Val := Elt F) (τ := τ) osem c : sProp 𝕄) = iprop(locals c ∗ zeros c) := by
  unfold Pipeline.ownSems0 locals zeros
  rw [bigSep_univ_sum, lb_split]
  rfl
/-- The one semaphore that outlives the kernel is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The launch's share of the rounds -/

def allCells : Finset (GSem nD τ sig) := Finset.univ.map ⟨kcell, kcell_inj⟩

/-- A duty: of a device's barrier, by axis; of one of its links' cells. -/
abbrev TI : Type := Fin 3 ⊕ (Lk × Bool)
def tokOf (ct : Dev nD × TI) : GSem nD τ sig × ℕ × Fin 3 :=
  match ct.2 with
  | .inl d => (barCell ct.1, 0, d)
  | .inr p => (kcell (ct.1, .inr p), 0, 0)
/-- No two duties have the same token. -/
theorem tokOf_inj : Function.Injective tokOf := by
  rintro ⟨c, t⟩ ⟨c', t'⟩ h
  rcases t with d | p <;> rcases t' with d' | p'
  · have h1 := kcell_inj (congrArg Prod.fst h)
    have h2 : d = d' := congrArg (fun x : GSem nD τ sig × ℕ × Fin 3 => x.2.2) h
    obtain rfl : c = c' := congrArg Prod.fst h1
    rw [h2]
  · have h1 := kcell_inj (congrArg Prod.fst h)
    exact absurd (congrArg Prod.snd h1) (fun h => by cases h)
  · have h1 := kcell_inj (congrArg Prod.fst h)
    exact absurd (congrArg Prod.snd h1) (fun h => by cases h)
  · have h1 := kcell_inj (congrArg Prod.fst h)
    obtain rfl : c = c' := congrArg Prod.fst h1
    obtain rfl : p = p' := Sum.inr.inj (congrArg Prod.snd h1)
    rfl
def allToks : Finset (GSem nD τ sig × ℕ × Fin 3) := Finset.univ.map ⟨tokOf, tokOf_inj⟩

/-- The duties of a device's own cells. -/
def toks (c : Dev nD) : sProp 𝕄 :=
  iprop((bigSep Finset.univ fun d : Fin 3 => dutyTok ER (barCell c) 0 d)
    ∗ (bigSep Finset.univ fun ℓ : Lk => dutyTok ER (sendCell ℓ c) 0 0) ∗ (bigSep Finset.univ fun ℓ : Lk => dutyTok ER (recvCell ℓ c) 0 0))

/-- What the rounds deal a device, -/
def G (c : Dev nD) : sProp 𝕄 :=
  iprop((bigSep Finset.univ fun i : CI => roundState ER (Rd m) (kcell (c, i)) 0)
    ∗ (bigSep Finset.univ fun i : CI => iprop(atPos ER (kcell (c, i)) 0 ∅ 0 ∗ reached ER (kcell (c, i)) 0)) ∗ toks c)
/-- and what it has once all devices' cells are shared. -/
def G' (c : Dev nD) : sProp 𝕄 := iprop(∃ K, records m K ∗ linear c)

/-- The launch's ghost state is every device's share of it. -/
theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_sum, lb_split]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device opens its cells' invariants from its counters and its share. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) := by
  have hv : iprop(semVal (barCell c) 0 ∗ zeros c) ⊢ (bigSep Finset.univ fun i : CI => semVal (kcell (c, i)) 0 : sProp 𝕄) := by
    rw [ci_split]; unfold zeros; exact Entails.refl _
  have hi : iprop((bigSep Finset.univ fun i : CI => semVal (kcell (c, i)) 0) ∗ bigSep Finset.univ fun i : CI => roundState ER (Rd m) (kcell (c, i)) 0)
      ⊢ (|={Set.univ}=> bigSep Finset.univ fun i : CI => iprop(∃ κ : ℕ, cellInv ER (Rd m) κ (kcell (c, i))) : sProp 𝕄) := by
    rw [← bigSep_sep']
    exact (bigSep_mono fun i _ => (Rounds.body_intro ER (Rd m) (kcell (c, i))).trans inv_alloc).trans (bigSep_fupd _ _)
  rw [ownSems0_eq, unscopedSems0_eq]
  unfold G
  iintro ⟨⟨Hl, Hz⟩, Hb, Hst, Hat, Htok⟩
  ihave Hv := hv $$ [Hb Hz]
  · isplitl [Hb] <;> iassumption
  imod hi $$ [Hv Hst] with Hinv
  · isplitl [Hv] <;> iassumption
  imodintro
  isplitl [Hinv]; · iexact Hinv
  isplitl [Hat]; · iexact Hat
  isplitl [Htok] <;> iassumption

/-- Each duty dealt to the device that pays it. -/
theorem toks_around : (bigSep Finset.univ fun c : Dev nD => (toks c : sProp 𝕄)) ⊢ bigSep Finset.univ fun c : Dev nD => payToks c := by
  have hb : (bigSep Finset.univ fun c : Dev nD => bigSep Finset.univ fun d : Fin 3 => (dutyTok ER (barCell c) 0 d : sProp 𝕄))
      = bigSep Finset.univ fun c : Dev nD => bigSep Finset.univ fun d : Fin 3 => dutyTok ER (barCell (nbr d c)) 0 d := by
    rw [bigSep_univ_comm, bigSep_univ_comm (fun (c : Dev nD) (d : Fin 3) => (dutyTok ER (barCell (nbr d c)) 0 d : sProp 𝕄))]
    exact bigSep_congr fun d _ => bigSep_univ_equiv (nbrE d) fun c => dutyTok ER (barCell c) 0 d
  have hr : (bigSep Finset.univ fun c : Dev nD => bigSep Finset.univ fun ℓ : Lk => (dutyTok ER (recvCell ℓ c) 0 0 : sProp 𝕄))
      = bigSep Finset.univ fun c : Dev nD => bigSep Finset.univ fun ℓ : Lk => dutyTok ER (recvCell ℓ (peer ℓ c)) 0 0 := by
    rw [bigSep_univ_comm, bigSep_univ_comm (fun (c : Dev nD) (ℓ : Lk) => (dutyTok ER (recvCell ℓ (peer ℓ c)) 0 0 : sProp 𝕄))]
    exact bigSep_congr fun ℓ _ => bigSep_univ_equiv (nbrE (axis ℓ)) fun c => dutyTok ER (recvCell ℓ c) 0 0
  unfold toks payToks
  rw [bigSep_sep', bigSep_sep', bigSep_sep', bigSep_sep', hb, hr]

/-- Facts that all share may be used at every index of a product. -/
theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The tokens and facts of all devices, dealt to the devices that use them. -/
theorem regroup :
    (bigSep Finset.univ fun c : Dev nD => iprop((bigSep Finset.univ fun i : CI => iprop(∃ κ : ℕ, cellInv ER (Rd m) κ (kcell (c, i))))
          ∗ (bigSep Finset.univ fun i : CI => iprop(atPos ER (kcell (c, i)) 0 ∅ 0 ∗ reached ER (kcell (c, i)) 0)) ∗ toks c ∗ locals c) : sProp 𝕄)
      ⊢ bigSep Finset.univ (G' m) := by
  have hlin : iprop((bigSep Finset.univ fun c : Dev nD => bigSep Finset.univ fun i : CI => (atPos ER (kcell (c, i)) 0 ∅ 0 : sProp 𝕄))
      ∗ (bigSep Finset.univ fun c : Dev nD => payToks c) ∗ (bigSep Finset.univ fun c : Dev nD => locals c)) ⊢ (bigSep Finset.univ fun c : Dev nD => linear c : sProp 𝕄) := by
    unfold linear positions
    rw [bigSep_congr fun (c : Dev nD) _ => ci_split fun i : CI => (atPos ER (kcell (c, i)) 0 ∅ 0 : sProp 𝕄)]
    simp only [bigSep_sep']
    exact Entails.refl _
  rw [bigSep_sep', bigSep_sep', bigSep_sep', ← bigSep_univ_prod (fun ci : Dev nD × CI => iprop(∃ κ : ℕ, cellInv ER (Rd m) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok, Hl⟩
  ihave HK := (BI.bigSep_exists_pi Finset.univ (fun (ci : Dev nD × CI) (κ : ℕ) => (cellInv ER (Rd m) κ (kcell ci) : sProp 𝕄))) $$ HI
  icases HK with ⟨%K, #HI⟩
  ihave Htk := (toks_around (F := F)) $$ Htok
  iapply (with_records (R := records m K) (Φ := fun c => linear c) fun c _ => (show iprop(records m K ∗ linear c) ⊢ G' m c from by unfold G'; iintro H; iexists K; iexact H))
  isplitr
  · unfold records; isplitl; · iexact HI
    iexact HR
  · iapply hlin
    isplitl [Hat]; · iexact Hat
    isplitl [Htk] <;> iassumption

/-- From all devices' counters and shares to what each starts with. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the devices owe each other at launch -/

/-- Two devices' arrival cells of a link are the same only if the devices are; -/
theorem recv_iff (ℓ : Lk) (a b : Dev nD) : recvCell ℓ a = recvCell ℓ b ↔ a = b :=
  ⟨fun h => congrArg Prod.fst (kcell_inj h), fun h => h ▸ rfl⟩
/-- so are their barrier cells, -/
theorem bar_iff (a b : Dev nD) : barCell a = barCell b ↔ a = b :=
  ⟨fun h => congrArg Prod.fst (kcell_inj h), fun h => h ▸ rfl⟩
/-- and an arrival cell is no barrier cell. -/
theorem recv_ne_bar (ℓ : Lk) (a b : Dev nD) : recvCell ℓ a ≠ barCell b := fun h => by
  have h := congrArg Prod.snd (kcell_inj h); cases h
/-- Being a neighbour goes both ways. -/
theorem nbr_iff (a : Fin 3) (c d : Dev nD) : c = nbr a d ↔ d = nbr a c :=
  ⟨fun h => by rw [h, nbr_nbr], fun h => by rw [h, nbr_nbr]⟩

/-- At launch an arrival cell is owed its link's credit by the peer alone; -/
theorem owed_recv (ℓ : Lk) (d c : Dev nD) : O₀ d (recvCell ℓ c) () = if d = peer ℓ c then Nl ℓ else 0 := by
  have hb (a : Dev nD) : tallyAt (barCell a) () 1 (recvCell ℓ c) = (0 : Unit →₀ ℕ) := tallyAt_ne_cell (recv_ne_bar ℓ c a) () 1
  have hmem : ℓ ∈ todo 0 := by unfold todo; simp
  unfold O₀ owe
  rw [Pi.add_apply, Pi.add_apply, Pi.add_apply, hb, hb, hb, add_zero, add_zero, add_zero, Finset.sum_apply, Finsupp.finset_sum_apply,
    Finset.sum_eq_single_of_mem ℓ hmem fun ℓ' _ h => by
      rw [tallyAt_apply, if_neg]
      rintro ⟨h', -⟩
      have h' := congrArg Prod.snd (kcell_inj h')
      cases h'; exact h rfl]
  rw [tallyAt_apply]
  refine if_congr ?_ rfl rfl
  rw [recv_iff, peer, nbr_iff]; simp

/-- a barrier cell is owed one unit by each neighbour. -/
theorem owed_bar (d c : Dev nD) : O₀ d (barCell c) () = ((if d = devZ c then 1 else 0) + (if d = devX c then 1 else 0)) + (if d = devY c then 1 else 0) := by
  have h0 : owe (todo 0) d (barCell c) () = 0 := Nat.eq_zero_of_not_pos fun h => by
    obtain ⟨ℓ, _, h⟩ := owe_pos h
    exact recv_ne_bar _ _ _ h.symm
  have h1 (a : Fin 3) : tallyAt (barCell (nbr a d)) () 1 (barCell c) () = if d = nbr a c then 1 else 0 := by
    rw [tallyAt_apply]
    refine if_congr ?_ rfl rfl
    rw [bar_iff, nbr_iff]; simp
  have hz : tallyAt (barCell (devZ d)) () 1 (barCell c) () = if d = devZ c then 1 else 0 := h1 2
  have hx : tallyAt (barCell (devX d)) () 1 (barCell c) () = if d = devX c then 1 else 0 := h1 1
  have hy : tallyAt (barCell (devY d)) () 1 (barCell c) () = if d = devY c then 1 else 0 := h1 0
  unfold O₀
  rw [Pi.add_apply, Pi.add_apply, Pi.add_apply, Finsupp.add_apply, Finsupp.add_apply, Finsupp.add_apply, h0, hz, hx, hy, zero_add]

/-- So a barrier cell's credit at launch is three, -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (devZ c) fun _ => 1, Finset.sum_ite_eq' Finset.univ (devX c) fun _ => 1, Finset.sum_ite_eq' Finset.univ (devY c) fun _ => 1,
    if_pos (Finset.mem_univ _), if_pos (Finset.mem_univ _), if_pos (Finset.mem_univ _)]

/-- and an arrival cell's is its link's. -/
theorem launch_recv (ℓ : Lk) (c : Dev nD) :
    tallyOn (recvCell ℓ c) (launchCredit (Pipeline.owing O₀) 0 (recvCell ℓ c)) = (tallyAt (recvCell ℓ c) () (Nl ℓ) : CellTallies nD τ sig Unit) := by
  unfold tallyAt; refine congrArg _ (Finsupp.ext fun u => ?_); cases u
  rw [Pipeline.launchCredit_owing, Finsupp.single_eq_same, Finset.sum_congr rfl fun d _ => owed_recv ℓ d c, Finset.sum_ite_eq' Finset.univ (peer ℓ c) fun _ => Nl ℓ,
    if_pos (Finset.mem_univ _)]

/-- The launch's credit, cell by cell. -/
theorem creds (c : Dev nD) : (Pipeline.launchCred O₀ c : sProp 𝕄) ⊢ credits c := by
  have h : (Pipeline.launchCred O₀ c : sProp 𝕄) ⊢ bigSep (Finset.univ.map ⟨csem, csem_inj⟩) fun sm : SemLoc sig => cred (tallyOn ((c : Thread nD τ), sm) (launchCredit (Pipeline.owing O₀) 0 ((c : Thread nD τ), sm))) :=
    bigSep_subset (Finset.subset_univ _)
  have h1 : (bigSep Finset.univ fun ℓ : Lk => (cred (tallyOn (recvCell ℓ c) (launchCredit (Pipeline.owing O₀) 0 (recvCell ℓ c))) : sProp 𝕄))
      = bigSep Finset.univ fun ℓ : Lk => cred (tallyAt (recvCell ℓ c) () (Nl ℓ)) := bigSep_congr fun ℓ _ => by rw [launch_recv]
  refine h.trans ?_
  rw [bigSep_map]
  refine (Entails.of_eq (ci_split _)).trans ?_
  unfold credits
  rw [← launch_bar, ← h1]
  iintro ⟨H1, -, H2⟩
  isplitl [H1]
  · iexact H1
  · iexact H2

end Cert.K

end
-- ==== Proof.Launch.lean ====
/-
# `Launch`: the kernel's run

The body between what the pipeline gives a core and takes back, the launch's side conditions, and the run.
-/
module

public import proofs.«01_k».proof.Proof.Funds

public import proofs.«01_k».proof.Proof.Gen.KernelIdeal.Launch
public import proofs.«01_k».proof.Proof.Gen.KernelIdeal.Points
public import Idealize.ShloMosaic.Lib.Quiescent
public import Idealize.ShloMosaic.Lib.Pipeline.CollectiveSegs

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The body between the pipeline's holdings -/

/-- What the launch gives a core beside its buffers; -/
def start (c : Dev nD) : sProp 𝕄 :=
  iprop((∃ K, records m K ∗ linear c) ∗ levAts L lv ∗ credits c ∗ xs m c fullShare ∗ resAt c fullShare (m ((c : Thread nD τ).loc main_v1)))
def Φ₀ (c : Dev nD) : sProp 𝕄 := iprop(start m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => gam m c
  Φ t := match t with
    | ⟨0, _⟩ => Φ₀ m c
    | ⟨_ + 1, _⟩ => final m c
  q _ := fullShare
  owed t := match t with
    | ⟨0, _⟩ => O₀ c
    | ⟨_ + 1, _⟩ => 0

/-- Owning the scale's staging buffer is holding the scale. -/
theorem owns_scale (c : Dev nD) (X : (cc0_stg0_0 : Ref sig .tc).ty.Contents (Elt F)) :
    (owns (Ix := Unit) (Name := ℕ) (U := UU) (Lvl := ℕ) (c : Thread nD τ) (Memref.whole cc0_stg0_0) fullShare X : sProp 𝕄)
      = iprop(∃ f : Buf (Elt F) ((c : Thread nD τ).loc cc0_stg0_0), ⌜f = X⌝ ∗ (((c : Thread nD τ).loc cc0_stg0_0) ↦{fullShare} f)) := by
  unfold owns; simp only [Memref.view_whole, View.read_whole, View.set_whole]

abbrev scaleAt (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))
def bodyPre (c : Dev nD) : sProp 𝕄 :=
  iprop(Φ₀ m c ∗ (dats m ρ 0 c).owesAt () t0_0.castSucc ∗ (∃ d, scaleAt c ((dats m ρ 0 c).before (0 : Fin 1) t0_0 d)))
def bodyPost (c : Dev nD) : sProp 𝕄 :=
  iprop(final m c ∗ (dats m ρ 0 c).owesAt () t0_0.succ ∗ scaleAt c (gam m c))

/-- At the body's start the staging buffer holds the scale. -/
theorem before_scale (c : Dev nD) (d : _) : (dats m ρ 0 c).before (0 : Fin 1) t0_0 d = gam m c := by
  unfold Dat.before; rw [if_pos (fetch0_0 t0_0)]; rfl

/-- The body on a device, from what the pipeline gives it to what it takes back. -/
theorem sound_body (c : Dev nD) : bodyPre m ρ c ⊢ WP c body fun _ => bodyPost m ρ c := by
  have hctx (K : Dev nD × CI → ℕ) : iprop(records m K ∗ levAts L lv) ⊢ Ctx m K := Entails.refl _
  have hg : iprop(((c : Thread nD τ).loc cc0_stg0_0) ↦{fullShare} gam m c) ⊢ gamH m c := Entails.refl _
  have hg' : gamH m c ⊢ iprop(((c : Thread nD τ).loc cc0_stg0_0) ↦{fullShare} gam m c) := Entails.refl _
  have ho : (dats m ρ 0 c).owesAt () t0_0.castSucc ⊢ OW c (O₀ c) := by
    unfold Dat.owesAt Pipeline.owesWithin OW
    iintro ⟨%W, -, HO⟩
    iexists W; iexact HO
  have ho' : (OW c (owe (todo 32) c) : sProp 𝕄) ⊢ (dats m ρ 0 c).owesAt () t0_0.succ := by
    rw [owe_done]
    unfold Dat.owesAt Pipeline.owesWithin OW
    iintro ⟨%W, HO⟩
    iexists W; isplitr; · ipureintro; exact fun _ _ => Or.inl trivial
    iexact HO
  have hl := leave m c
  unfold bodyPre Φ₀ start
  iintro ⟨⟨⟨⟨%K, #HR, Hlin⟩, #Hlev, Hcr, Hx, Hres⟩, Hscr⟩, Ho, ⟨%d, %f, %hf, Hgam⟩⟩
  have hf : f = gam m c := hf.trans (before_scale m ρ c d)
  subst hf
  unfold body
  iapply wp_then
  simp only [Prog.lift, wp_deviceId, wp_ret]
  imodintro
  iapply (wp_bodyOn m K c) $$ [Hlin Hcr Hx Hres Hscr Hgam Ho]
  · isplitr
    · iapply hctx; isplitr; · iexact HR
      iexact Hlev
    iapply (enter m c (m ((c : Thread nD τ).loc main_v1)))
    isplitl [Hlin]; · iexact Hlin
    isplitl [Hcr]; · iexact Hcr
    isplitl [Hx]; · iexact Hx
    isplitl [Hres]; · iexact Hres
    isplitl [Hscr]; · iexact Hscr
    isplitl [Hgam]; · iapply hg $$ Hgam
    iapply ho $$ Ho
  · iintro Hfin
    ihave H := hl $$ Hfin
    icases H with ⟨HO, Hg, Hf⟩
    unfold bodyPost
    isplitl [Hf]; · iexact Hf
    isplitl [HO]; · iapply ho' $$ HO
    iexists (gam m c)
    isplitr; · ipureintro; rfl
    iapply hg' $$ Hg

set_option maxRecDepth 200000 in
/-- The body, run from the launch's first state, reaches its last. -/
theorem body_obligation (c : Dev nD) : BodyObligation (dats (F := F) m ρ 0 c) (defs₀ (F := F)) 𝒱₀ () Set.univ := fun t => by
  rw [fin_N0 t, bigSep_W0, bigSep_W0]
  show iprop(Φ₀ m c ∗ (dats m ρ 0 c).owesAt () t0_0.castSucc ∗ (∃ d, owns (c : Thread nD τ) (Memref.whole cc0_stg0_0) fullShare ((dats m ρ 0 c).before (0 : Fin 1) t0_0 d)))
    ⊢ WP c (bodyAt0 t0_0) fun _ => iprop(final m c ∗ (dats m ρ 0 c).owesAt () t0_0.succ ∗ owns (c : Thread nD τ) (Memref.whole cc0_stg0_0) fullShare (gam m c))
  rw [body_eq]
  simp only [owns_scale]
  exact sound_body m ρ c

/-! ## The launch's side conditions -/

/-- The own semaphores are scoped, different, and none of the staging's. -/
theorem ownSemFacts : Pipeline.OwnSemFacts cfg0.spec osem := ⟨by decide, osem_inj, by decide⟩

/-- The scale's array is held whole. -/
theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), (initOf allCells allToks, 1))

/-- The ghost state of the launch splits into the staging's and the exchange's. -/
theorem fund_start : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HX, -⟩
  imod (fund_all m) $$ HX with HG
  imodintro
  isplitl [HP] <;> iassumption

/-- What the launch hands a device is what it starts from, -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hx : iprop(((c : Thread nD τ).loc main_arg0) ↦{fullShare} m ((c : Thread nD τ).loc main_arg0)) ⊢ xs m c fullShare := Entails.refl _
  have hr : iprop(((c : Thread nD τ).loc main_v1) ↦{fullShare} m ((c : Thread nD τ).loc main_v1)) ⊢ resAt c fullShare (m ((c : Thread nD τ).loc main_v1)) := Entails.refl _
  rw [Pipeline.unscopedRestP_none, show cfg0.spec = spec0 from rfl, unscopedRest0_eq]
  iintro ⟨⟨Hx, Hr⟩, Hlev, Hcr, -, HG⟩
  ihave Hc := (creds (F := F) c) $$ Hcr
  imodintro
  unfold start G'
  isplitl
  · isplitl [HG]; · iexact HG
    isplitl [Hlev]; · iexact Hlev
    isplitl [Hc]; · iexact Hc
    isplitl [Hx]; · iapply hx $$ Hx
    iapply hr $$ Hr
  · iempintro

/-- and with its scratch buffers that is the body's first state. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show cfg0.spec = spec0 from rfl, scopedRest0_eq]
  unfold Φ₀ scratch
  iintro ⟨Hs, -, Hr⟩
  isplitl [Hs] <;> iassumption

/-- What a core is left with, to be read in the final memory. -/
def result (c : Dev nD) : sProp 𝕄 :=
  iprop((xs m c fullShare ∗ ∃ g : Buf (Elt F) ((c : Thread nD τ).loc main_v1), ⌜isOut m c g⌝ ∗ resAt c fullShare g) ∗ unscopedSems0 c)

/-- The body's last state hands back the result, the counters and the buffers. -/
theorem phi1_exit (c : Dev nD) :
    (dats m ρ 0 c).Φ (Fin.last cfg0.N) ⊢ iprop(result m c ∗ Pipeline.ownSems0 osem c ∗ Pipeline.scopedRest cfg0.spec c) := by
  rw [show (dats m ρ 0 c).Φ (Fin.last cfg0.N) = final m c from rfl, show cfg0.spec = spec0 from rfl, scopedRest0_eq, ownSems0_eq]
  unfold result; rw [unscopedSems0_eq]
  unfold final scratch
  iintro ⟨H, Hb, Hl, Hs⟩
  isplitl [H Hb]
  · isplitl [H] <;> iassumption
  isplitl [Hl] <;> iassumption

/-- The staging's semaphores are no cells of the exchange. -/
theorem no_cell (w : Fin cfg0.W) (s : Fin (cfg0.win w).nbuf) : ¬ ∃ i, csem i = (.dma ((cfg0.win w).sem s) : SemLoc sig) := by
  revert w s; decide

/-- So its waits are below everything owed. -/
theorem waits (c : Dev nD) : (levAts L lv : sProp 𝕄) ⊢ Pipeline.cellsWaits cfgs (dats m ρ) () 0 c :=
  Pipeline.cellsWaits_intro cfgs (dats m ρ) () 0 c fun w s t => by
    have h0 : lv ((c : Thread nD τ), .dma ((cfg0.win w).sem s)) () = 0 := lv_other _ (no_cell w s)
    have hb (a : Dev nD) (g : GSem nD τ sig) (u : Unit) (h : 0 < tallyAt (barCell a) () 1 g u) : g.1.2 = .tc ∧ 0 < lv g () := by
      rw [tallyAt_apply] at h
      split at h
      · next h' => rw [h'.1]; exact ⟨rfl, by rw [lv_cell]; decide⟩
      · exact absurd h (lt_irrefl _)
    rcases t with ⟨_ | _, ht⟩
    · refine mayWait_of c _ (O₀ c) 0 (le_of_eq h0) fun g u h => ?_
      unfold O₀ at h
      rw [Pi.add_apply, Pi.add_apply, Pi.add_apply, Finsupp.add_apply, Finsupp.add_apply, Finsupp.add_apply] at h
      have h : 0 < owe (todo 0) c g u ∨ 0 < tallyAt (barCell (devZ c)) () 1 g u ∨ 0 < tallyAt (barCell (devX c)) () 1 g u ∨ 0 < tallyAt (barCell (devY c)) () 1 g u := by omega
      rcases h with h | h | h | h
      · obtain ⟨ℓ, _, rfl⟩ := owe_pos h
        exact ⟨rfl, by rw [lv_cell]; exact lt_trans Nat.one_pos (lvl_pos ℓ)⟩
      · exact hb _ g u h
      · exact hb _ g u h
      · exact hb _ g u h
    · exact mayWait_of c _ 0 0 (le_of_eq h0) fun g u h => absurd h (lt_irrefl _)

/-- The final memory holds the argument and the result, and the counters there are zero. -/
theorem read_back (c : Dev nD) (s' : Phys nD τ sig (Elt F)) : iprop(result m c ∗ emp ∗ SI s') ⊢ |={Set.univ}=> iprop(⌜s'.mem.mem ((c : Thread nD τ).loc main_arg0) = m ((c : Thread nD τ).loc main_arg0)
      ∧ isOut m c (s'.mem.mem ((c : Thread nD τ).loc main_v1)) ∧ ∀ sm : SemLoc sig, sm.isScoped .tc = false → s'.mem.sem ((c.tc : Thread nD τ), sm) = 0⌝ ∗ (SI s' : sProp 𝕄)) := by
  have hx : xs m c fullShare ⊢ (iprop(((c : Thread nD τ).loc main_arg0) ↦{fullShare} m ((c : Thread nD τ).loc main_arg0)) : sProp 𝕄) := Entails.refl _
  unfold result
  iintro ⟨⟨⟨Hx, ⟨%g, %hg, Hr⟩⟩, Hu⟩, -, HSI⟩
  ihave Hx := hx $$ Hx
  icombine HSI Hx gives %h1
  icombine HSI Hr gives %h2
  imod (Pipeline.unscopedSems0_read (X := unscopedSems0 c) (c := c) fupd_intro s') $$ [Hu HSI] with ⟨%h3, HSI⟩
  · isplitl [Hu] <;> iassumption
  imodintro
  isplitr
  · ipureintro
    refine ⟨Buf.eq_of_forall_mem_univ h1, ?_, h3⟩
    rw [Buf.eq_of_forall_mem_univ h2]; exact hg
  · iexact HSI

/-! ## The run -/

set_option maxRecDepth 200000 in
/-- On the mesh of sixteen devices, for any floats, from any memory with zero counters: every execution ends, the
    arguments unchanged, each device's result holding the normalised sums of its rows, every counter zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ isOut m c (r.2.mem ((c : Thread nD τ).loc main_v1))) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀) (hu₀ := fund_start m) (hglob := glob m)
    (hA := fun _ _ => rfl) (hpf := fun _ k => k.elim0)
    (X := start m) (Y := result m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ isOut m c (s.mem ((c : Thread nD τ).loc main_v1)) ∧ ∀ sm : SemLoc sig, sm.isScoped .tc = false → s.sem ((c.tc : Thread nD τ), sm) = 0)
    (hY := read_back m)
    (hQ := fun _ h hs => ⟨fun c => ⟨(h c).2.2.1, ((h c).1 (0 : Fin 1)).trans ((dats (F := F) m ρ 0 c).arrAt_in (0 : Fin 1) rfl _), (h c).2.2.2.1⟩,
      sem_eq_zero hs fun c => (h c).2.2.2.2⟩)

end Cert.K

end
-- ==== Proof.Whole.lean ====
module

public import proofs.«01_k».proof.Proof.Gen.ReferenceIdeal.Run
public import Idealize.ShloMosaic.Lib.ValueLayout
public import Idealize.ShloMosaic.Lib.ValueLayoutCasts
public import Idealize.ShloMosaic.Lib.IdealHost
public import Idealize.ShloMosaic.Lib.Layout

@[expose] public section

set_option backward.proofsInPublic true

noncomputable section

namespace Cert.K

open Cert.ReferenceIdeal Cert.ReferenceIdeal.Gen
open Idealize.ShloMosaic
open Idealize.ShloMosaic.TcCoe

open Idealize.ShloMosaic.ValueIdx
open scoped BigOperators

/-- One entry of a row `f`, divided by the root of the row's mean square (a small constant added) and scaled by `g`. -/
def rms (f g : Fin 2048 → EReal) (d : Fin 2048) : EReal :=
  Ideal.div (f d) (Ideal.sqrt (Ideal.div (∑ k, f k * f k) (Ideal.ofBits .f32 0x45000000#32) + Ideal.ofBits .f32 0x358637BD#32)) * g d

/-! ## The reference's array -/

/-- The sum of the two parts. -/
def tot (P : FVec Ideal S2x4096x2048 .f32) : FVec Ideal S4096x2048 .f32 :=
  Host.reduceAdd P (constant S_ .f32 0x00000000#32) reducesTo_S2x4096x2048_S4096x2048_d0 h_S_

/-- The reference's result, as it is written. -/
def refOut (P : FVec Ideal S2x4096x2048 .f32) (g : FVec Ideal S2048 .f32) : FVec Ideal S4096x2048 .f32 :=
  mulf (Host.divf (tot P) (broadcastInDim S4096x2048 ![0, 1] bcast_S4096x1_S4096x2048_0_1 (Host.sqrt (addf (Host.divf (broadcastInDim S4096x1 ![0] bcast_S4096_S4096x1_0
    (Host.reduceAdd (mulf (tot P) (tot P)) (constant S_ .f32 0x00000000#32) reducesTo_S4096x2048_S4096_d1 h_S_))
    (broadcastInDim S4096x1 ![] bcast_S_S4096x1 (constant S_ .f32 0x45000000#32))) (broadcastInDim S4096x1 ![] bcast_S_S4096x1 (constant S_ .f32 0x358637BD#32))))))
    (broadcastInDim S4096x2048 ![0, 1] bcast_S1x2048_S4096x2048_0_1 (broadcastInDim S1x2048 ![1] bcast_S2048_S1x2048_1 g))

/-- The sum of the two parts, entry by entry. -/
theorem tot_apply (P : FVec Ideal S2x4096x2048 .f32) (n : Fin 4096) (d : Fin 2048) : tot P (ix2 n d) = P (ix3 (0 : Fin 2) n d) + P (ix3 (1 : Fin 2) n d) := by
  unfold tot
  rw [hostReduceAdd_apply, Ideal.hostReduceAdd_single _ (by decide), constant_apply, Ideal.ofBits_zero_f32, zero_add]
  refine (Fin.sum_univ_two _).trans (congrArg₂ (· + ·) (congrArg P ?_) (congrArg P ?_)) <;>
  · funext a
    match a with
    | ⟨0, _⟩ => rfl
    | ⟨1, _⟩ => rfl
    | ⟨2, _⟩ => rfl

/-- The sum along a row of the whole array. -/
theorem rowTot_apply (v : FVec Ideal S4096x2048 .f32) (n : Fin 4096) :
    Host.reduceAdd v (constant S_ .f32 0x00000000#32) reducesTo_S4096x2048_S4096_d1 h_S_ (ix1 n) = ∑ k : Fin 2048, v (ix2 n k) := by
  rw [hostReduceAdd_apply, Ideal.hostReduceAdd_single _ (by decide), constant_apply, Ideal.ofBits_zero_f32, zero_add]
  refine Finset.sum_congr rfl fun k _ => congrArg v ?_
  funext a
  match a with
  | ⟨0, _⟩ => rfl
  | ⟨1, _⟩ => rfl

/-- A vector made a column reads the vector. -/
theorem column_apply {α : Type} (v : S4096.Idx → α) (n : Fin 4096) : broadcastInDim S4096x1 ![0] bcast_S4096_S4096x1_0 v (ix2 n (0 : Fin 1)) = v (ix1 n) :=
  broadcastInDim_apply _ _ _ _ (ix1 n) fun a => by
    match a with
    | ⟨0, _⟩ => rfl

/-- The reference's result, entry by entry. -/
theorem refOut_apply (P : FVec Ideal S2x4096x2048 .f32) (g : FVec Ideal S2048 .f32) (n : Fin 4096) (d : Fin 2048) :
    refOut P g (ix2 n d) = rms (fun k => P (ix3 (0 : Fin 2) n k) + P (ix3 (1 : Fin 2) n k)) (fun k => g (ix1 k)) d := by
  unfold refOut rms
  rw [mulf_apply, hostDivf_apply, tot_apply]
  refine congrArg₂ (· * ·) (congrArg (Ideal.div _) ?_) ?_
  · refine (broadcastInDim_apply _ _ _ _ (ix2 n (0 : Fin 1)) fun a => by
      match a with
      | ⟨0, _⟩ => rfl
      | ⟨1, _⟩ => rfl).trans ?_
    refine congrArg Ideal.sqrt (congrArg₂ (· + ·) (congrArg₂ Ideal.div ((column_apply _ n).trans ((rowTot_apply _ n).trans ?_)) rfl) rfl)
    simp only [mulf_apply, tot_apply]
  · refine (broadcastInDim_apply _ _ _ _ (ix2 (0 : Fin 1) d) fun a => by
      match a with
      | ⟨0, _⟩ => rfl
      | ⟨1, _⟩ => rfl).trans ?_
    exact broadcastInDim_apply _ _ _ _ (ix1 d) fun a => by
      match a with
      | ⟨0, _⟩ => rfl

end Cert.K

end
-- ==== Proof.Rows.lean ====
module

public import proofs.«01_k».proof.Proof.Slots

public import proofs.«01_k».proof.Proof.Whole
public import Idealize.ShloMosaic.Lib.ValueLayout
public import Idealize.ShloMosaic.Lib.ValueLayoutCasts
public import Idealize.ShloMosaic.Lib.IdealHost
public import Idealize.ShloMosaic.Lib.Layout

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

open Idealize.ShloMosaic.ValueIdx
open scoped BigOperators

/-! ## The kernel's chunk -/

/-- A chunk without its unit axis reads the chunk at row `0` of that axis, -/
theorem sq_apply {α : Type} (w : S1x64x2048.Idx → α) (i : Fin 64) (d : Fin 2048) : sq hsq w (ix2 i d) = w (ix3 (0 : Fin 1) i d) :=
  congrArg w (reshapeEquiv_ix2_1ab _ i d)
/-- and the other way round. -/
theorem unsq_apply {α : Type} (X : S64x2048.Idx → α) (i : Fin 64) (d : Fin 2048) : unsq hsq X (ix3 (0 : Fin 1) i d) = X (ix2 i d) := by
  rw [← sq_apply (unsq hsq X), sq_unsq]

/-- Over the extended reals the value sent is the value read. -/
theorem wire_apply (A : FVec Ideal S1x64x2048 .f32) (i : Fin 64) (d : Fin 2048) : wire (F := Ideal) A (ix3 (0 : Fin 1) i d) = A (ix3 (0 : Fin 1) i d) := by
  unfold wire k0_pay1
  rw [shapeCast_ab_1ab_apply, truncf_apply, shapeCast_1ab_ab_apply]

/-- A column broadcast along the rows reads the column. -/
theorem col_apply {α : Type} (v : S64x1.Idx → α) (i : Fin 64) (d : Fin 2048) : broadcastTo S64x2048 v broadcasts_S64x1_S64x2048 (ix2 i d) = v (ix2 i (0 : Fin 1)) :=
  broadcastTo_apply v _ _ _ fun a => by
    match a with
    | ⟨0, _⟩ => rfl
    | ⟨1, _⟩ => rfl

/-- The sum along a chunk's rows. -/
theorem rowSum_apply (v : FVec Ideal S64x2048 .f32) (i : Fin 64) :
    multiReduction .add [1] S64 v 0x00000000#32 reduces_S64x2048_S64 (.inl rfl) rfl (ix1 i) = ∑ k : Fin 2048, v (ix2 i k) := by
  refine (Ideal.multiReduction_add_single v _ _ _ _ (ix1 i)).trans ?_
  refine Finset.sum_congr rfl fun k _ => congrArg v ?_
  funext a
  match a with
  | ⟨0, _⟩ => rfl
  | ⟨1, _⟩ => rfl

/-- The kernel's chunk, entry by entry. -/
theorem norm_apply (A : FVec Ideal S1x64x2048 .f32) (B : FVec Ideal S1x64x2048 .bf16) (g : FVec Ideal S2048 .f32) (i : Fin 64) (d : Fin 2048) :
    norm (F := Ideal) A B g (ix3 (0 : Fin 1) i d) = rms (fun k => A (ix3 (0 : Fin 1) i k) + B (ix3 (0 : Fin 1) i k)) (fun k => g (ix1 k)) d := by
  unfold norm k0_pay11 rms
  rw [shapeCast_ab_1ab_apply, mulf_apply, divf_apply, broadcastTo_1b_ab_apply, shapeCast_a_1a_apply, shapeCast_self, col_apply]
  show Ideal.div _ (Ideal.sqrt (Ideal.div (shapeCast S64x1 _ _ (ix2 i (0 : Fin 1))) _ + _)) * _ = _
  rw [shapeCast_a_a1_apply, rowSum_apply]
  simp only [mulf_apply, addf_apply, extf_apply, shapeCast_1ab_ab_apply]
  rfl

end Cert.K

end
-- ==== Proof.Value.lean ====
module

public import proofs.«01_k».proof.Proof.Rows

public import Idealize.ShloMosaic.Lib.ValueLayout
public import Idealize.ShloMosaic.Lib.ValueLayoutCasts
public import Idealize.ShloMosaic.Lib.IdealHost
public import Idealize.ShloMosaic.Lib.Layout

@[expose] public section

set_option backward.proofsInPublic true

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

open Idealize.ShloMosaic.ValueIdx
open scoped BigOperators

/-! ## Where a chunk received comes from -/

/-- The device whose own sending reaches `c` as chunk `j`. -/
def origin (c : Dev nD) (j : ℕ) : Dev nD :=
  if j < 8 then devY c
  else if j < 24 then (if j % 2 = 0 then devY (devX c) else devY (devZ c))
  else if j < 28 then devY (devZ (devX c)) else devY (devX (devZ c))

/-- It lies in the other half along `y`, and sends the rows that `c` wants. -/
theorem origin_row : ∀ (c : Dev nD) (j : Fin 32), (origin c j.val).val / 4 % 2 = 1 - c.val / 4 % 2 ∧ rowNo (origin c j.val) (grp j.val).val = rowNo c j.val := by decide +kernel

variable (m : (ℓ : Loc nD τ sig) → Buf (Elt Ideal) ℓ)

/-- A device's part of the argument, and the scale, as arrays. -/
def part (c : Dev nD) : FVec Ideal S1x4096x2048 .f32 := m ((c : Thread nD τ).loc main_arg0)
def scale (c : Dev nD) : FVec Ideal S2048 .f32 := m ((c : Thread nD τ).loc main_arg1)

/-- The chunk received is what its origin sends. -/
theorem recvOf_eq (c : Dev nD) (j : ℕ) : recvOf m c j = sy m (grp j) (origin c j) := by
  unfold recvOf origin lz lx ly
  split
  · rfl
  · split
    · split <;> rfl
    · split <;> rfl

/-- Rows of a part read through a chunk. -/
theorem rows_apply (f : FVec Ideal S1x4096x2048 .f32) (off : Fin 3 → Nat) (inb : ∀ a, off a + S1x64x2048.size a ≤ S1x4096x2048.size a) (o : ℕ) (ho : off = ![0, o, 0])
    (i : Fin 64) (d : Fin 2048) (n : Fin 4096) (hn : n.val = o + i.val) :
    ((xM.slice (Rect.unit (s := S1x4096x2048) off S1x64x2048.size inb) (fun _ => rfl)).squeeze S64x2048 squeezes_S1x64x2048_S64x2048).view.read (Elt Ideal) f (ix2 i d) = f (ix3 (0 : Fin 1) n d) := by
  subst ho
  refine (congrFun (Memref.read_squeeze_slice (Val := Elt Ideal) xM _ _ _ shapeCasts_S1x64x2048_S64x2048 f) _).trans ((shapeCast_1ab_ab_apply _ _ i d).trans ?_)
  refine congrArg f (funext fun a => Fin.ext ?_)
  match a with
  | ⟨0, _⟩ => rfl
  | ⟨1, _⟩ => show o + 1 * i.val = n.val; omega
  | ⟨2, _⟩ => show 0 + 1 * d.val = d.val; omega

/-- The device's own rows, entry by entry. -/
theorem locv_apply (c : Dev nD) (j : Fin 32) (i : Fin 64) (d : Fin 2048) (n : Fin 4096) (hn : n.val = 2048 * (c.val / 4 % 2) + 64 * rowNo c j.val + i.val) :
    locv m c j.val (ix2 i d) = part m c (ix3 (0 : Fin 1) n d) :=
  rows_apply (part m c) _ (locOff_inb c j.val) _ (locOff_row c j) i d n hn

/-- The rows a device sends, entry by entry. -/
theorem sy_apply (c : Dev nD) (k : Fin 8) (i : Fin 64) (d : Fin 2048) (n : Fin 4096) (hn : n.val = 2048 * (1 - c.val / 4 % 2) + 64 * rowNo c k.val + i.val) :
    sy m k c (ix2 i d) = part m c (ix3 (0 : Fin 1) n d) := by
  unfold sy
  rw [sq_apply, wire_apply, unsq_apply]
  exact rows_apply (part m c) _ (k0_off1_inb c k) _ (sendOff_row c k) i d n hn

/-- The other half's part, as received. -/
theorem recvOf_apply (c : Dev nD) (j : Fin 32) (i : Fin 64) (d : Fin 2048) (n : Fin 4096) (hn : n.val = 2048 * (c.val / 4 % 2) + 64 * rowNo c j.val + i.val) :
    recvOf m c j.val (ix2 i d) = part m (origin c j.val) (ix3 (0 : Fin 1) n d) := by
  obtain ⟨h1, h2⟩ := origin_row c j
  rw [recvOf_eq]
  exact sy_apply m _ _ i d n (by rw [h1, h2]; omega)

/-- The scale, as the kernel reads it. -/
theorem gam_eq (c : Dev nD) : gam m c = scale m c := by
  funext x
  exact congrArg (scale m c) (funext fun a => Fin.ext (Pipeline.Window.rect_emb_val_of_index_zero win0_0 (0 : Fin 1) a rfl x))

/-- The result's chunk `j`: the two parts' rows, summed and normalised. -/
theorem outv_apply (c : Dev nD) (j : Fin 32) (i : Fin 64) (d : Fin 2048) (n : Fin 4096) (hn : n.val = 2048 * (c.val / 4 % 2) + 64 * rowNo c j.val + i.val) :
    outv m c j.val (ix2 i d) = rms (fun k => part m c (ix3 (0 : Fin 1) n k) + part m (origin c j.val) (ix3 (0 : Fin 1) n k)) (fun k => scale m c (ix1 k)) d := by
  unfold outv
  rw [sq_apply, norm_apply, gam_eq]
  simp only [unsq_apply]
  simp only [locv_apply m c j i _ n hn, recvOf_apply m c j i _ n hn]

/-- A result that holds every chunk, read at an entry. -/
theorem isOut_apply (c : Dev nD) (r : FVec Ideal S2048x2048 .f32) (hr : isOut m c r) (p : Fin 2048) (d : Fin 2048) (n : Fin 4096) (hn : n.val = 2048 * (c.val / 4 % 2) + p.val) :
    ∃ c' : Dev nD, c'.val / 4 % 2 = 1 - c.val / 4 % 2 ∧ r (ix2 p d) = rms (fun k => part m c (ix3 (0 : Fin 1) n k) + part m c' (ix3 (0 : Fin 1) n k)) (fun k => scale m c (ix1 k)) d := by
  obtain ⟨j, hj⟩ := outR_onto c (ix2 p d)
  have hp : p.val / 64 = rowNo c j.val := (outR_mem c j (ix2 p d)).mp hj
  refine ⟨origin c j.val, (origin_row c j).1, ?_⟩
  have hi : p.val % 64 < 64 := Nat.mod_lt _ (by decide)
  rw [← outv_apply m c j ⟨p.val % 64, hi⟩ d n (by show n.val = _ + p.val % 64; omega), ← hr j.val j.isLt]
  refine congrArg r (funext fun a => Fin.ext ?_)
  have ho := outOff_row c j
  match a with
  | ⟨0, _⟩ =>
    show p.val = outOff c j.val 0 + 1 * (p.val % 64)
    rw [ho]; show p.val = 64 * rowNo c j.val + 1 * (p.val % 64); omega
  | ⟨1, _⟩ =>
    show d.val = outOff c j.val 1 + 1 * d.val
    rw [ho]; show d.val = 0 + 1 * d.val; omega

/-! ## Against the whole arrays -/

/-- A device's place along `y`. -/
def yOf (c : Dev nD) : Fin 2 := ⟨c.val / 4 % 2, Nat.mod_lt _ (by decide)⟩

/-- A device's block along `y` is its place there. -/
theorem meshLin_y : ∀ c : Dev nD, Layout.meshLin [2, 2, 4] c.val [1] = c.val / 4 % 2 := by decide +kernel

abbrev Whole0 : Type := FVec Ideal (⟨3, ![2, 4096, 2048]⟩ : Shape) .f32

/-- A block of the argument, read at an entry; -/
theorem block3_apply (c : Dev nD) (P : Whole0) (n : Fin 4096) (d : Fin 2048) :
    (Layout.blockN ⟨3, ![1, 4096, 2048]⟩ ⟨3, ![2, 4096, 2048]⟩ (Layout.meshBlock [2, 2, 4] ![[1], [], []] c) P : (⟨3, ![1, 4096, 2048]⟩ : Shape).Idx → EReal) (ix3 (0 : Fin 1) n d) = P (ix3 (yOf c) n d) := by
  rw [Layout.blockN_apply]
  refine congrArg P (funext fun a => Fin.ext ?_)
  rw [Layout.TilesN.idx_val]
  match a with
  | ⟨0, _⟩ => show Layout.meshLin [2, 2, 4] c.val [1] * 1 + 0 = c.val / 4 % 2; rw [meshLin_y]; omega
  | ⟨1, _⟩ => show 0 * 4096 + n.val = n.val; omega
  | ⟨2, _⟩ => show 0 * 2048 + d.val = d.val; omega

/-- and a block of the result. -/
theorem block2_apply (c : Dev nD) (v : FVec Ideal (⟨2, ![4096, 2048]⟩ : Shape) .f32) (p d : Fin 2048) (n : Fin 4096) (hn : n.val = 2048 * (c.val / 4 % 2) + p.val) :
    (Layout.blockN ⟨2, ![2048, 2048]⟩ ⟨2, ![4096, 2048]⟩ (Layout.meshBlock [2, 2, 4] ![[1], []] c) v : (⟨2, ![2048, 2048]⟩ : Shape).Idx → EReal) (ix2 p d) = v (ix2 n d) := by
  rw [Layout.blockN_apply]
  refine congrArg v (funext fun a => Fin.ext ?_)
  rw [Layout.TilesN.idx_val]
  match a with
  | ⟨0, _⟩ => show Layout.meshLin [2, 2, 4] c.val [1] * 2048 + p.val = n.val; rw [meshLin_y]; omega
  | ⟨1, _⟩ => show 0 * 2048 + d.val = d.val; omega

/-- Either half first, the sum is the sum of the two halves. -/
theorem halves (f : Fin 2 → EReal) (a b : Fin 2) (h : b.val = 1 - a.val) : f a + f b = f 0 + f 1 := by
  match a, b, h with
  | 0, 1, _ => rfl
  | 1, 0, _ => exact add_comm _ _

/-- Every device's result is its block of the reference's. -/
theorem value_eq (P : Whole0) (g : FVec Ideal S2048 .f32)
    (hP : ∀ c : Dev nD, part m c = Layout.blockN ⟨3, ![1, 4096, 2048]⟩ ⟨3, ![2, 4096, 2048]⟩ (Layout.meshBlock [2, 2, 4] ![[1], [], []] c) P) (hg : ∀ c : Dev nD, scale m c = g)
    (c : Dev nD) (r : FVec Ideal S2048x2048 .f32) (hr : isOut m c r) :
    r = Layout.blockN ⟨2, ![2048, 2048]⟩ ⟨2, ![4096, 2048]⟩ (Layout.meshBlock [2, 2, 4] ![[1], []] c) (refOut P g) := by
  funext x
  rw [eq_ix2 x]
  have hx : (x (0 : Fin 2)).val < 2048 := (x (0 : Fin 2)).isLt
  have hn : 2048 * (c.val / 4 % 2) + (x (0 : Fin 2)).val < 4096 := by omega
  obtain ⟨c', hc', h⟩ := isOut_apply m c r hr (x (0 : Fin 2)) (x (1 : Fin 2)) ⟨_, hn⟩ rfl
  refine h.trans (Eq.symm ?_)
  refine (block2_apply c _ _ _ ⟨_, hn⟩ rfl).trans ((refOut_apply P g _ _).trans ?_)
  rw [hg c]
  refine congrArg (fun f => rms f _ _) (funext fun k => ?_)
  rw [hP c, hP c', block3_apply, block3_apply]
  exact (halves (fun y => P (ix3 y _ k)) (yOf c) (yOf c') hc').symm

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Lib.Pipeline.Regions
public import Idealize.ShloMosaic.Adequacy
public import Idealize.ShloMosaic.Init

@[expose] public section

noncomputable section

namespace Cert.Proof

open Idealize.ShloMosaic Idealize.SL.Sem Cert.Kernel

set_option maxRecDepth 200000 in
/-- The printed kernel's frame: its text is the idealised kernel's. -/
theorem frame_kernel : Cert.quiescent_Kernel := fun m g _ => by
  have h : θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
    (θ_run Cert.KernelIdeal.defs _ _).mono (fun _ h => ⟨fun c => ⟨(h.1 c).1, (h.1 c).2.1⟩, h.2⟩) (Cert.K.run_main (F := Bits) m g)
  exact Eq.mp (by chain_rfl) h

/-- The idealised kernel's frame. -/
theorem frame_ideal : Cert.quiescent_KernelIdeal := fun m g _ =>
  (θ_run Cert.KernelIdeal.defs _ _).mono (fun _ h => ⟨fun c => ⟨(h.1 c).1, (h.1 c).2.1⟩, h.2⟩) (Cert.K.run_main (F := Ideal) m g)

/-- The reference's frame: it has no semaphore. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- Over the extended reals the kernel's results are the blocks of the reference's. -/
theorem value : Cert.algebraic_KernelIdeal_ReferenceIdeal := fun m g m' g' _ hin =>
  ⟨Cert.K.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨Cert.K.value_eq m _ _ (fun c => (hin c).1) (fun c => (hin c).2) c _ (h.1 c).2.2, (h.1 c).1, (h.1 c).2.1⟩)
      (Cert.K.run_main (F := Ideal) m g),
    (θ_run Cert.ReferenceIdeal.defs _ _).mono (fun _ h => h 0) (Cert.ReferenceIdeal.Value.run m' g')⟩

/-- All the claims. -/
theorem claim : Cert.Claim := ⟨Cert.Kernel.Gen.facts, Cert.KernelIdeal.Gen.facts, Cert.ReferenceIdeal.Gen.facts,
  frame_kernel, frame_ideal, frame_reference, trivial, value⟩

end Cert.Proof

end
